-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "inv_cutoff" .f32 0x3E4CCCCD#32 ((5⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x512x128 : Shape := ⟨3, ![4, 512, 128]⟩
abbrev S4x512x64x128 : Shape := ⟨4, ![4, 512, 64, 128]⟩
abbrev S4x512x64x20 : Shape := ⟨4, ![4, 512, 64, 20]⟩
abbrev S4x512x64 : Shape := ⟨3, ![4, 512, 64]⟩
abbrev S128x20 : Shape := ⟨2, ![128, 20]⟩
abbrev S128 : Shape := ⟨1, ![128]⟩
abbrev S128x128 : Shape := ⟨2, ![128, 128]⟩
abbrev S_ : Shape := ⟨0, ![]⟩

class Facts : Prop where
  bcast_S_S4x512x64 : S_.BroadcastsInDim S4x512x64 (![] : Fin 0 → Fin S4x512x64.rank)
  reducesTo_S4x512x64_S_d0_1_2 : S4x512x64.ReducesTo [0, 1, 2] S_
  h_S_ : 0 < S_.numel

variable [Facts]

def fn {F : FTy → Type} [FloatOps F] (main_arg0 : FVec F S4x512x128 .f32) (main_arg1 : FVec F S4x512x64x128 .f32) (main_arg2 : FVec F S4x512x64x20 .f32) (main_arg3 : FVec F S4x512x64 .f32) (main_arg4 : IVec S4x512x64 32) (main_arg5 : FVec F S4x512x64 .f32) (main_arg6 : FVec F S128x20 .f32) (main_arg7 : FVec F S128 .f32) (main_arg8 : FVec F S128x128 .f32) (main_arg9 : FVec F S128 .f32) (main_arg10 : FVec F S128x128 .f32) (main_arg11 : FVec F S128 .f32) : IVec S_ 1 :=
  let main_c : IVec S_ 32 := constantI S_ 32 0#32
  let main_v0 : IVec S4x512x64 32 := broadcastInDim S4x512x64 ![] bcast_S_S4x512x64 main_c
  let main_v1 : IVec S4x512x64 1 := cmpi .sge main_arg4 main_v0
  let main_c_0 : IVec S_ 32 := constantI S_ 32 512#32
  let main_v2 : IVec S4x512x64 32 := broadcastInDim S4x512x64 ![] bcast_S_S4x512x64 main_c_0
  let main_v3 : IVec S4x512x64 1 := cmpi .slt main_arg4 main_v2
  let main_v4 : IVec S4x512x64 1 := andi main_v1 main_v3
  let main_c_1 : IVec S_ 1 := constantI S_ 1 1#1
  let main_v5 : IVec S_ 1 := (fun x v => Host.reduce IntOp.andi x v reducesTo_S4x512x64_S_d0_1_2 h_S_) main_v4 main_c_1
  main_v5
-- ==== Kernel.lean ====
abbrev S4x512x128 : Shape := ⟨3, ![4, 512, 128]⟩
abbrev S4x512x64x128 : Shape := ⟨4, ![4, 512, 64, 128]⟩
abbrev S4x512x64x20 : Shape := ⟨4, ![4, 512, 64, 20]⟩
abbrev S4x512x64 : Shape := ⟨3, ![4, 512, 64]⟩
abbrev S128x20 : Shape := ⟨2, ![128, 20]⟩
abbrev S128 : Shape := ⟨1, ![128]⟩
abbrev S128x128 : Shape := ⟨2, ![128, 128]⟩
abbrev S2048x128 : Shape := ⟨2, ![2048, 128]⟩
abbrev S1x128 : Shape := ⟨2, ![1, 128]⟩
abbrev S4x64x512 : Shape := ⟨3, ![4, 64, 512]⟩
abbrev S20x128 : Shape := ⟨2, ![20, 128]⟩
abbrev S131072 : Shape := ⟨1, ![131072]⟩
abbrev S131072x128 : Shape := ⟨2, ![131072, 128]⟩
abbrev S_ : Shape := ⟨0, ![]⟩
abbrev S16 : Shape := ⟨1, ![16]⟩
abbrev S4x64x20x512 : Shape := ⟨4, ![4, 64, 20, 512]⟩
abbrev S8192x128 : Shape := ⟨2, ![8192, 128]⟩
abbrev S1x64x20x128 : Shape := ⟨4, ![1, 64, 20, 128]⟩
abbrev S1x64x128 : Shape := ⟨3, ![1, 64, 128]⟩
abbrev S128x64x128 : Shape := ⟨3, ![128, 64, 128]⟩
abbrev S64x20x128 : Shape := ⟨3, ![64, 20, 128]⟩
abbrev S1280x128 : Shape := ⟨2, ![1280, 128]⟩
abbrev S128x1280 : Shape := ⟨2, ![128, 1280]⟩
abbrev S128x1x128 : Shape := ⟨3, ![128, 1, 128]⟩
abbrev S64x128 : Shape := ⟨2, ![64, 128]⟩
abbrev S128x64 : Shape := ⟨2, ![128, 64]⟩
abbrev S128x1x64 : Shape := ⟨3, ![128, 1, 64]⟩
abbrev S128x64x64 : Shape := ⟨3, ![128, 64, 64]⟩
abbrev S8192x64 : Shape := ⟨2, ![8192, 64]⟩

abbrev nBuf : Table → Nat
  | .hbm => 28
  | .local .tc .vmem => 27
  | .local .scVector .vmem => 4
  | _ => 0

abbrev bufTy : (tb : Table) → Fin (nBuf tb) → BufTy
  | .hbm, ⟨0, _⟩ => ⟨S4x512x128, .f32⟩
  | .hbm, ⟨1, _⟩ => ⟨S4x512x64x128, .f32⟩
  | .hbm, ⟨2, _⟩ => ⟨S4x512x64x20, .f32⟩
  | .hbm, ⟨3, _⟩ => ⟨S4x512x64, .f32⟩
  | .hbm, ⟨4, _⟩ => ⟨S4x512x64, .i32⟩
  | .hbm, ⟨5, _⟩ => ⟨S4x512x64, .f32⟩
  | .hbm, ⟨6, _⟩ => ⟨S128x20, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S2048x128, .f32⟩
  | .hbm, ⟨13, _⟩ => ⟨S1x128, .f32⟩
  | .hbm, ⟨14, _⟩ => ⟨S1x128, .f32⟩
  | .hbm, ⟨15, _⟩ => ⟨S2048x128, .f32⟩
  | .hbm, ⟨16, _⟩ => ⟨S4x64x512, .f32⟩
  | .hbm, ⟨17, _⟩ => ⟨S4x64x512, .f32⟩
  | .hbm, ⟨18, _⟩ => ⟨S20x128, .f32⟩
  | .hbm, ⟨19, _⟩ => ⟨S131072, .i32⟩
  | .hbm, ⟨20, _⟩ => ⟨S131072x128, .f32⟩
  | .hbm, ⟨21, _⟩ => ⟨S131072x128, .f32⟩
  | .hbm, ⟨22, _⟩ => ⟨S4x64x20x512, .f32⟩
  | .hbm, ⟨23, _⟩ => ⟨S1x128, .f32⟩
  | .hbm, ⟨24, _⟩ => ⟨S2048x128, .f32⟩
  | .hbm, ⟨25, _⟩ => ⟨S131072x128, .f32⟩
  | .hbm, ⟨26, _⟩ => ⟨S4x512x128, .f32⟩
  | .hbm, ⟨27, _⟩ => ⟨S4x512x64x128, .f32⟩
  | .local .tc .vmem, ⟨0, _⟩ => ⟨S2048x128, .f32⟩
  | .local .tc .vmem, ⟨1, _⟩ => ⟨S128x128, .f32⟩
  | .local .tc .vmem, ⟨2, _⟩ => ⟨S1x128, .f32⟩
  | .local .tc .vmem, ⟨3, _⟩ => ⟨S128x128, .f32⟩
  | .local .tc .vmem, ⟨4, _⟩ => ⟨S1x128, .f32⟩
  | .local .tc .vmem, ⟨5, _⟩ => ⟨S2048x128, .f32⟩
  | .local .tc .vmem, ⟨6, _⟩ => ⟨S8192x128, .f32⟩
  | .local .tc .vmem, ⟨7, _⟩ => ⟨S8192x128, .f32⟩
  | .local .tc .vmem, ⟨8, _⟩ => ⟨S8192x128, .f32⟩
  | .local .tc .vmem, ⟨9, _⟩ => ⟨S8192x128, .f32⟩
  | .local .tc .vmem, ⟨10, _⟩ => ⟨S1x64x20x128, .f32⟩
  | .local .tc .vmem, ⟨11, _⟩ => ⟨S1x64x20x128, .f32⟩
  | .local .tc .vmem, ⟨12, _⟩ => ⟨S1x64x128, .f32⟩
  | .local .tc .vmem, ⟨13, _⟩ => ⟨S1x64x128, .f32⟩
  | .local .tc .vmem, ⟨14, _⟩ => ⟨S1x64x128, .f32⟩
  | .local .tc .vmem, ⟨15, _⟩ => ⟨S1x64x128, .f32⟩
  | .local .tc .vmem, ⟨16, _⟩ => ⟨S128x128, .f32⟩
  | .local .tc .vmem, ⟨17, _⟩ => ⟨S128x128, .f32⟩
  | .local .tc .vmem, ⟨18, _⟩ => ⟨S128x128, .f32⟩
  | .local .tc .vmem, ⟨19, _⟩ => ⟨S128x128, .f32⟩
  | .local .tc .vmem, ⟨20, _⟩ => ⟨S20x128, .f32⟩
  | .local .tc .vmem, ⟨21, _⟩ => ⟨S1x128, .f32⟩
  | .local .tc .vmem, ⟨22, _⟩ => ⟨S128x128, .f32⟩
  | .local .tc .vmem, ⟨23, _⟩ => ⟨S128x128, .f32⟩
  | .local .tc .vmem, ⟨24, _⟩ => ⟨S8192x128, .f32⟩
  | .local .tc .vmem, ⟨25, _⟩ => ⟨S8192x128, .f32⟩
  | .local .tc .vmem, ⟨26, _⟩ => ⟨S128x64x128, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | _, _ => ⟨S4x512x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTables nBuf rfl bufTy 4 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v13 : Ref sig .tc := ⟨.hbm, 26, rfl⟩
abbrev main_v14 : Ref sig .tc := ⟨.hbm, 27, rfl⟩
abbrev main_v3_scv : Ref sig .scVector := ⟨.hbm, 15, rfl⟩
abbrev main_v7_scv : Ref sig .scVector := ⟨.hbm, 19, rfl⟩
abbrev main_v8_scv : Ref sig .scVector := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg5_1 : Ref sig .tc := ⟨.vmem, 17, rfl⟩
abbrev cc2_stg6_0 : Ref sig .tc := ⟨.vmem, 18, rfl⟩
abbrev cc2_stg6_1 : Ref sig .tc := ⟨.vmem, 19, rfl⟩
abbrev cc2_stg7_0 : Ref sig .tc := ⟨.vmem, 20, rfl⟩
abbrev cc2_stg8_0 : Ref sig .tc := ⟨.vmem, 21, rfl⟩
abbrev cc2_stg9_0 : Ref sig .tc := ⟨.vmem, 22, rfl⟩
abbrev cc2_stg9_1 : Ref sig .tc := ⟨.vmem, 23, rfl⟩
abbrev cc2_stg10_0 : Ref sig .tc := ⟨.vmem, 24, rfl⟩
abbrev cc2_stg10_1 : Ref sig .tc := ⟨.vmem, 25, rfl⟩
abbrev cc2_scratch0 : Ref sig .tc := ⟨.vmem, 26, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem8_0 : DmaSem sig := 28
abbrev cc2_sem9_0 : DmaSem sig := 29
abbrev cc2_sem9_1 : DmaSem sig := 30
abbrev cc2_sem10_0 : DmaSem sig := 31
abbrev cc2_sem10_1 : DmaSem sig := 32
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let c0_i32_6 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_5 : BitVec 32 := 0#32
  let v22 : BitVec 32 := Scalar.addi v2 c0_i32_5
  let v23 : BitVec 32 := Scalar.addi c0_i32_6 v22
  ![v23.toNat]
@[reducible] def k1_t1_loop : Scf.Loop 32 :=
  let c0_i32_18 : BitVec 32 := 0#32
  let c32_i32 : BitVec 32 := 32#32
  let v81 : BitVec 32 := Scalar.addi c0_i32_18 c32_i32
  let c1_i32_19 : BitVec 32 := 1#32
  ⟨c0_i32_18, v81, c1_i32_19⟩
def k1_cond1 (k1_t1 : Fin k1_t1_loop.trips) : BitVec 1 :=
  let c0_i32_18 : BitVec 32 := 0#32
  let c1_i32_19 : BitVec 32 := 1#32
  let arg11 : BitVec 32 := Scf.iv c0_i32_18 c1_i32_19 k1_t1
  let c1_i32_22 : BitVec 32 := 1#32
  let v84 : BitVec 32 := Scalar.addi arg11 c1_i32_22
  let c32_i32_23 : BitVec 32 := 32#32
  let v85 : BitVec 1 := Scalar.cmpi .slt v84 c32_i32_23
  let v86 : BitVec 32 := Scalar.extui v85
  let c0_i32_24 : BitVec 32 := 0#32
  let v87 : BitVec 1 := Scalar.cmpi .ne v86 c0_i32_24
  v87

def k1_cond2 (k1_t1 : Fin k1_t1_loop.trips) : BitVec 1 :=
  let c1_i32_29 : BitVec 32 := 1#32
  let c0_i32_18 : BitVec 32 := 0#32
  let c1_i32_19 : BitVec 32 := 1#32
  let arg11 : BitVec 32 := Scf.iv c0_i32_18 c1_i32_19 k1_t1
  let c2_i32_21 : BitVec 32 := 2#32
  let v83 : BitVec 32 := Scalar.remsi arg11 c2_i32_21
  let v91 : BitVec 32 := Scalar.subi c1_i32_29 v83
  let c0_i32_30 : BitVec 32 := 0#32
  let v92 : BitVec 32 := Scalar.maxsi v91 c0_i32_30
  let c1_i32_31 : BitVec 32 := 1#32
  let v93 : BitVec 32 := Scalar.minsi v92 c1_i32_31
  let c0_i32_32 : BitVec 32 := 0#32
  let v94 : BitVec 1 := Scalar.cmpi .ne v93 c0_i32_32
  v94

def k1_off2 (i : grid1.Coords) (k1_t1 : Fin k1_t1_loop.trips) : Fin 1 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_18 : BitVec 32 := 0#32
  let c1_i32_19 : BitVec 32 := 1#32
  let arg11 : BitVec 32 := Scf.iv c0_i32_18 c1_i32_19 k1_t1
  let c1_i32_33 : BitVec 32 := 1#32
  let v95 : BitVec 32 := Scalar.addi arg11 c1_i32_33
  let c128_i32 : BitVec 32 := 128#32
  let v96 : BitVec 32 := Scalar.muli v95 c128_i32
  let v97 : BitVec 32 := Scalar.addi v2 v96
  let v98 : BitVec 32 := Scalar.addi c0_i32_34 v97
  ![v98.toNat]
def k1_off3 (i : grid1.Coords) (k1_t1 : Fin k1_t1_loop.trips) : Fin 1 → Nat :=
  let c0_i32_34 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_18 : BitVec 32 := 0#32
  let c1_i32_19 : BitVec 32 := 1#32
  let arg11 : BitVec 32 := Scf.iv c0_i32_18 c1_i32_19 k1_t1
  let c1_i32_33 : BitVec 32 := 1#32
  let v95 : BitVec 32 := Scalar.addi arg11 c1_i32_33
  let c128_i32 : BitVec 32 := 128#32
  let v96 : BitVec 32 := Scalar.muli v95 c128_i32
  let v97 : BitVec 32 := Scalar.addi v2 v96
  let v98 : BitVec 32 := Scalar.addi c0_i32_34 v97
  ![v98.toNat]
def k1_cond3 (k1_t1 : Fin k1_t1_loop.trips) : BitVec 1 :=
  let c0_i32_18 : BitVec 32 := 0#32
  let c1_i32_19 : BitVec 32 := 1#32
  let arg11 : BitVec 32 := Scf.iv c0_i32_18 c1_i32_19 k1_t1
  let c2_i32_21 : BitVec 32 := 2#32
  let v83 : BitVec 32 := Scalar.remsi arg11 c2_i32_21
  let c0_i32_25 : BitVec 32 := 0#32
  let v88 : BitVec 32 := Scalar.maxsi v83 c0_i32_25
  let c1_i32_26 : BitVec 32 := 1#32
  let v89 : BitVec 32 := Scalar.minsi v88 c1_i32_26
  let c0_i32_27 : BitVec 32 := 0#32
  let v90 : BitVec 1 := Scalar.cmpi .ne v89 c0_i32_27
  v90

def k1_off4 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_18 : BitVec 32 := 0#32
  let c1_i32_19 : BitVec 32 := 1#32
  let arg11 : BitVec 32 := Scf.iv c0_i32_18 c1_i32_19 k1_t1
  let c128_i32 : BitVec 32 := 128#32
  let v91 : BitVec 32 := Scalar.muli arg11 c128_i32
  let v92 : BitVec 32 := Scalar.addi v2 v91
  let c0_i32_31_r3 : BitVec 32 := 0#32
  ![v92.toNat, 0]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_18 : BitVec 32 := 0#32
  let c1_i32_19 : BitVec 32 := 1#32
  let arg11 : BitVec 32 := Scf.iv c0_i32_18 c1_i32_19 k1_t1
  let c128_i32 : BitVec 32 := 128#32
  let v91 : BitVec 32 := Scalar.muli arg11 c128_i32
  let v92 : BitVec 32 := Scalar.addi v2 v91
  let c0_i32_31_r4 : BitVec 32 := 0#32
  ![v92.toNat, 0]
abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  let c0_i32_13 : BitVec 32 := 0#32
  ![v17.toNat, c0_i32_11.toNat, c0_i32_12.toNat, v27.toNat]

def cc2_transform_3 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc2_transform_4 (i : grid2.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc2_transform_5 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_6 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_10 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x64x20x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x64x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x64x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S128x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S128x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S20x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S128x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S8192x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_cutoff" => some ((5⁻¹ : ℝ) : EReal)
  | _ => none
-- ==== ReferenceIdeal.lean ====
abbrev S4x512x128 : Shape := ⟨3, ![4, 512, 128]⟩
abbrev S4x512x64x128 : Shape := ⟨4, ![4, 512, 64, 128]⟩
abbrev S4x512x64x20 : Shape := ⟨4, ![4, 512, 64, 20]⟩
abbrev S4x512x64 : Shape := ⟨3, ![4, 512, 64]⟩
abbrev S128x20 : Shape := ⟨2, ![128, 20]⟩
abbrev S128 : Shape := ⟨1, ![128]⟩
abbrev S128x128 : Shape := ⟨2, ![128, 128]⟩
abbrev S1x1x1x128 : Shape := ⟨4, ![1, 1, 1, 128]⟩
abbrev S_ : Shape := ⟨0, ![]⟩
abbrev S4x512x64x1 : Shape := ⟨4, ![4, 512, 64, 1]⟩
abbrev S1x1x128 : Shape := ⟨3, ![1, 1, 128]⟩
abbrev S4x512x1x128 : Shape := ⟨4, ![4, 512, 1, 128]⟩
abbrev S4x32768x1 : Shape := ⟨3, ![4, 32768, 1]⟩
abbrev S4x32768x128 : Shape := ⟨3, ![4, 32768, 128]⟩
abbrev S4x32768x128x1 : Shape := ⟨4, ![4, 32768, 128, 1]⟩
abbrev S1 : Shape := ⟨1, ![1]⟩
abbrev S1x1x1x1 : Shape := ⟨4, ![1, 1, 1, 1]⟩

abbrev nBuf : Space → Nat
  | .hbm => 107
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x64x128, .f32⟩
  | .hbm, ⟨2, _⟩ => ⟨S4x512x64x20, .f32⟩
  | .hbm, ⟨3, _⟩ => ⟨S4x512x64, .f32⟩
  | .hbm, ⟨4, _⟩ => ⟨S4x512x64, .i32⟩
  | .hbm, ⟨5, _⟩ => ⟨S4x512x64, .f32⟩
  | .hbm, ⟨6, _⟩ => ⟨S128x20, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S4x512x64x128, .f32⟩
  | .hbm, ⟨13, _⟩ => ⟨S1x1x1x128, .f32⟩
  | .hbm, ⟨14, _⟩ => ⟨S4x512x64x128, .f32⟩
  | .hbm, ⟨15, _⟩ => ⟨S4x512x64x128, .f32⟩
  | .hbm, ⟨16, _⟩ => ⟨S_, .f32⟩
  | .hbm, ⟨17, _⟩ => ⟨S4x512x64, .f32⟩
  | .hbm, ⟨18, _⟩ => ⟨S4x512x64, .f32⟩
  | .hbm, ⟨19, _⟩ => ⟨S4x512x64, .f32⟩
  | .hbm, ⟨20, _⟩ => ⟨S4x512x64, .f32⟩
  | .hbm, ⟨21, _⟩ => ⟨S4x512x64, .f32⟩
  | .hbm, ⟨22, _⟩ => ⟨S4x512x64, .f32⟩
  | .hbm, ⟨23, _⟩ => ⟨S_, .f32⟩
  | .hbm, ⟨24, _⟩ => ⟨S4x512x64, .f32⟩
  | .hbm, ⟨25, _⟩ => ⟨S4x512x64, .f32⟩
  | .hbm, ⟨26, _⟩ => ⟨S_, .f32⟩
  | .hbm, ⟨27, _⟩ => ⟨S4x512x64, .f32⟩
  | .hbm, ⟨28, _⟩ => ⟨S4x512x64, .f32⟩
  | .hbm, ⟨29, _⟩ => ⟨S4x512x64, .f32⟩
  | .hbm, ⟨30, _⟩ => ⟨S4x512x64, .f32⟩
  | .hbm, ⟨31, _⟩ => ⟨S4x512x64, .f32⟩
  | .hbm, ⟨32, _⟩ => ⟨S4x512x64, .f32⟩
  | .hbm, ⟨33, _⟩ => ⟨S_, .f32⟩
  | .hbm, ⟨34, _⟩ => ⟨S4x512x64, .f32⟩
  | .hbm, ⟨35, _⟩ => ⟨S4x512x64, .f32⟩
  | .hbm, ⟨36, _⟩ => ⟨S4x512x64, .f32⟩
  | .hbm, ⟨37, _⟩ => ⟨S4x512x64, .f32⟩
  | .hbm, ⟨38, _⟩ => ⟨S4x512x64, .f32⟩
  | .hbm, ⟨39, _⟩ => ⟨S4x512x64, .f32⟩
  | .hbm, ⟨40, _⟩ => ⟨S4x512x64, .f32⟩
  | .hbm, ⟨41, _⟩ => ⟨S4x512x64, .f32⟩
  | .hbm, ⟨42, _⟩ => ⟨S_, .f32⟩
  | .hbm, ⟨43, _⟩ => ⟨S4x512x64, .f32⟩
  | .hbm, ⟨44, _⟩ => ⟨S4x512x64, .f32⟩
  | .hbm, ⟨45, _⟩ => ⟨S4x512x64, .f32⟩
  | .hbm, ⟨46, _⟩ => ⟨S_, .f32⟩
  | .hbm, ⟨47, _⟩ => ⟨S4x512x64, .f32⟩
  | .hbm, ⟨48, _⟩ => ⟨S4x512x64, .i1⟩
  | .hbm, ⟨49, _⟩ => ⟨S4x512x64, .f32⟩
  | .hbm, ⟨50, _⟩ => ⟨S4x512x64, .f32⟩
  | .hbm, ⟨51, _⟩ => ⟨S4x512x64x1, .f32⟩
  | .hbm, ⟨52, _⟩ => ⟨S4x512x64x128, .f32⟩
  | .hbm, ⟨53, _⟩ => ⟨S4x512x64x128, .f32⟩
  | .hbm, ⟨54, _⟩ => ⟨S4x512x128, .f32⟩
  | .hbm, ⟨55, _⟩ => ⟨S1x1x128, .f32⟩
  | .hbm, ⟨56, _⟩ => ⟨S4x512x128, .f32⟩
  | .hbm, ⟨57, _⟩ => ⟨S4x512x128, .f32⟩
  | .hbm, ⟨58, _⟩ => ⟨S4x512x128, .f32⟩
  | .hbm, ⟨59, _⟩ => ⟨S4x512x128, .f32⟩
  | .hbm, ⟨60, _⟩ => ⟨S_, .f32⟩
  | .hbm, ⟨61, _⟩ => ⟨S4x512x128, .f32⟩
  | .hbm, ⟨62, _⟩ => ⟨S4x512x128, .f32⟩
  | .hbm, ⟨63, _⟩ => ⟨S_, .f32⟩
  | .hbm, ⟨64, _⟩ => ⟨S4x512x128, .f32⟩
  | .hbm, ⟨65, _⟩ => ⟨S4x512x128, .f32⟩
  | .hbm, ⟨66, _⟩ => ⟨S4x512x128, .f32⟩
  | .hbm, ⟨67, _⟩ => ⟨S4x512x128, .f32⟩
  | .hbm, ⟨68, _⟩ => ⟨S1x1x128, .f32⟩
  | .hbm, ⟨69, _⟩ => ⟨S4x512x128, .f32⟩
  | .hbm, ⟨70, _⟩ => ⟨S4x512x128, .f32⟩
  | .hbm, ⟨71, _⟩ => ⟨S4x512x1x128, .f32⟩
  | .hbm, ⟨72, _⟩ => ⟨S4x512x64x128, .f32⟩
  | .hbm, ⟨73, _⟩ => ⟨S4x32768x1, .i32⟩
  | .hbm, ⟨74, _⟩ => ⟨S4x32768x128, .i32⟩
  | .hbm, ⟨75, _⟩ => ⟨S_, .i32⟩
  | .hbm, ⟨76, _⟩ => ⟨S4x32768x128, .i32⟩
  | .hbm, ⟨77, _⟩ => ⟨S4x32768x128, .i1⟩
  | .hbm, ⟨78, _⟩ => ⟨S_, .i32⟩
  | .hbm, ⟨79, _⟩ => ⟨S4x32768x128, .i32⟩
  | .hbm, ⟨80, _⟩ => ⟨S4x32768x128, .i32⟩
  | .hbm, ⟨81, _⟩ => ⟨S4x32768x128, .i32⟩
  | .hbm, ⟨82, _⟩ => ⟨S4x32768x128x1, .i32⟩
  | .hbm, ⟨83, _⟩ => ⟨S1, .i32⟩
  | .hbm, ⟨84, _⟩ => ⟨S_, .i32⟩
  | .hbm, ⟨85, _⟩ => ⟨S4x32768x128x1, .i32⟩
  | .hbm, ⟨86, _⟩ => ⟨S4x32768x128x1, .i1⟩
  | .hbm, ⟨87, _⟩ => ⟨S1x1x1x1, .i32⟩
  | .hbm, ⟨88, _⟩ => ⟨S4x32768x128x1, .i32⟩
  | .hbm, ⟨89, _⟩ => ⟨S4x32768x128x1, .i1⟩
  | .hbm, ⟨90, _⟩ => ⟨S4x32768x128x1, .i1⟩
  | .hbm, ⟨91, _⟩ => ⟨S_, .i1⟩
  | .hbm, ⟨92, _⟩ => ⟨S4x32768x128, .i1⟩
  | .hbm, ⟨93, _⟩ => ⟨S4x32768x128, .f32⟩
  | .hbm, ⟨94, _⟩ => ⟨S_, .f32⟩
  | .hbm, ⟨95, _⟩ => ⟨S4x32768x128, .f32⟩
  | .hbm, ⟨96, _⟩ => ⟨S4x32768x128, .f32⟩
  | .hbm, ⟨97, _⟩ => ⟨S4x512x64x128, .f32⟩
  | .hbm, ⟨98, _⟩ => ⟨S4x512x64x128, .f32⟩
  | .hbm, ⟨99, _⟩ => ⟨S4x512x64x128, .f32⟩
  | .hbm, ⟨100, _⟩ => ⟨S4x512x64x1, .f32⟩
  | .hbm, ⟨101, _⟩ => ⟨S4x512x64x128, .f32⟩
  | .hbm, ⟨102, _⟩ => ⟨S4x512x64x128, .f32⟩
  | .hbm, ⟨103, _⟩ => ⟨S_, .f32⟩
  | .hbm, ⟨104, _⟩ => ⟨S4x512x128, .f32⟩
  | .hbm, ⟨105, _⟩ => ⟨S4x512x128, .f32⟩
  | .hbm, ⟨106, _⟩ => ⟨S4x512x64x128, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_cst : Ref sig .tc := ⟨.hbm, 94, rfl⟩
abbrev main_call1_v14 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_5 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩

abbrev nD : Nat := 1
abbrev τ : Topo := Topo.v7x

variable {F : FTy → Type} [FloatOps F]
-- ==== Proof.KI.Common.lean ====
/-
  What the proofs about the idealized kernel share: the launch configuration of its SparseCore call, the resource
  algebra (the handshakes' rounds, the two pipelines' staging cells, the transfers' counters), the buffers the
  SparseCore call reads and writes, and the closed form of what it writes.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The labels of the program's calls. -/
abbrev ΛP : Labels := Pipeline.Sig Λ₀ (Fin 2) fun p => (pcfgs (F := F) p).Adm
/-- The configuration of the one SparseCore call. -/
abbrev K : SparseCore.Cfg τ sig (ΛP (F := F)) 1 := sc (F := F)
/-- The definitions the SparseCore threads run: the pipelines' over the kernels' bodies. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call's handshake semaphores are distinct and outside every kernel's scope. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

/-! ## The resource algebra -/

/-- The SparseCore handshakes' rounds. -/
abbrev UH : Type := URounds (GSem nD τ sig) ℕ
/-- The staging cells of the two TensorCore pipelines. -/
abbrev UP : Type := UR sig nD τ
abbrev UU : Type := UH × (UP × Counters)

/-- The machine's resource algebra at the program's signature. -/
abbrev MM (F : FTy → Type) : Type := MT nD τ sig (HIx 1) (Elt F) ℕ UU ℕ

abbrev EH : Emb UH (MM F) := embL
/-- The pipelines' cells: the left half of the right factor. -/
def EP : Emb UP (MM F) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MM F)).LandsIn (upEmb : UEmb _ (MM F)) := by unfold EP; infer_instance

/-! ## The SparseCore call's buffers -/

/-- The table of rows, the row numbers and the gathered rows, on device `d`. -/
abbrev tLoc (d : Dev nD) : Loc nD τ sig := (SparseCore.T d).loc main_v3
abbrev iLoc (d : Dev nD) : Loc nD τ sig := (SparseCore.T d).loc main_v7
abbrev oLoc (d : Dev nD) : Loc nD τ sig := (SparseCore.T d).loc main_v8

/-- Index `n` of the list of row numbers. -/
def idNo (n : ℕ) : S131072.Idx := fun a => match a with | ⟨0, _⟩ => ⟨n % 131072, Nat.mod_lt _ (by decide)⟩

/-- The row of the table that row `e` of the result is: the row number `e` names within its batch of 512 rows. -/
def srcRow (ids : S131072.Idx → BitVec 32) (e : Fin 131072) : Fin 2048 :=
  ⟨((ids (idNo e.val)).toNat + 512 * (e.val / 32768)) % 2048, Nat.mod_lt _ (by decide)⟩

/-- What the SparseCore call leaves in its result: row `e` is the table's row `srcRow ids e`. -/
def gathered (tab : S2048x128.Idx → Elt F .f32) (ids : S131072.Idx → BitVec 32) : S131072x128.Idx → Elt F .f32 :=
  fun x => tab (fun a => match a with | ⟨0, _⟩ => srcRow ids (x 0) | ⟨1, _⟩ => x 1)

end Cert.KernelIdeal.Run

end
-- ==== Proof.KI.Region.lean ====
/-
  A TensorCore call inside the SparseCore launch: its region over every unscoped buffer at a valuation.
-/
module

public import proofs.«01_k».proof.Proof.KI.Common
public import Idealize.ShloMosaic.Lib.Pipeline.RegionsLoop

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-- The pipelines have no prefetched table. -/
abbrev adm : (p : Fin 2) → (pcfgs (F := F) p).Adm := fun p => (cfgs p).toPCfg_adm

/-- The TensorCore's unscoped references. -/
def ucRefs : Finset (DevRef τ sig) := (StableHlo.tcRefs τ sig).filter fun b => ¬ b.isScoped

omit [FloatOps F] [Named F] in
/-- The unscoped buffers at a valuation are that set held at it. -/
theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- No handshake unit is owed at the transfers' own index. -/
theorem Otc_none (d : Dev nD) (n : ℕ) (g : GSem nD τ sig) : (K (F := F)).Otc d n g none = 0 := by
  unfold SparseCore.Cfg.Otc
  rw [Fin.sum_univ_one]
  split
  · rw [Finset.sum_apply, Finsupp.finset_sum_apply]
    refine Finset.sum_eq_zero fun c _ => ?_
    rw [tallyAt_apply, if_neg (by simp)]
  · rfl

variable (n : ℕ) (pd : (p : Fin 2) → (c : Dev nD) → Dat τ (Elt F) (HIx 1) ℕ UU ℕ (Pipeline.pin (pcfgs (F := F)) adm p) c)
variable (W Wp : Dev nD → Valuation τ sig (Elt F))

/-- What a call's region is entered from and left at: the unscoped buffers at a valuation and what the TensorCore
    still owes its SparseCores after `n` calls. -/
def held (n : ℕ) (W : Dev nD → Valuation τ sig (Elt F)) (c : Dev nD) : sProp 𝕄 :=
  iprop(unscopedBufs c (fun b => W c b)
    ∗ ∃ w, ⌜(K (F := F)).WBelow (T c) w (8 * n)⌝ ∗ owes (c : Thread nD τ) ((K (F := F)).Otc c n) w)

set_option backward.isDefEq.respectTransparency.types false in
/-- A call's region, from its body's obligation: entered at `W`, left at any `Wp` that has the call's arrays as its
    write-backs leave them and agrees with `W` elsewhere. -/
def regionOf (p : Fin 2) (hl : Pipeline.LaunchFacts (nD := nD) (τ := τ) cfgs p)
    (hq : ∀ c w, (pd p c).q w = fullShare) (hA : ∀ c w, (pd p c).A w = W c (Pipeline.arrRef (cfgs p).spec w))
    (hΦ : ∀ c t, (pd p c).Φ t = Pipeline.scopedRest (cfgs p).spec c)
    (howed : ∀ c t, (pd p c).owed t = (K (F := F)).Otc c n)
    (hrec : ∀ c t, (pd p c).recorded t = {x | (K (F := F)).lev (T c, x.1) x.2 ≤ 8 * n})
    (hout : ∀ c w, (pd p c).arrAt w (cfgs p).N = Wp c (Pipeline.arrRef (cfgs p).spec w))
    (hne : ∀ c (b : Ref sig .tc), b ∉ Finset.univ.image (Pipeline.arrRef (cfgs p).spec) → Wp c b = W c b)
    (hbody : ∀ c, BodyObligation (pd p c) (defs₀ (F := F)) 𝒱₀ (none : HIx 1) Set.univ) :
    Pipeline.RegionSeg (pcfgs (F := F)) adm pd (none : HIx 1) defs₀ 𝒱₀ (K (F := F)).L (K (F := F)).lev p where
  win := hl.win.to₀
  block_pos := hl.block_pos
  stage_whole := hl.stage_whole
  K := PEmpty
  osem k := k.elim
  ho := Pipeline.OwnSemFacts.none _
  hbody c := (hbody c).loose
  hwaits c := Pipeline.cellsWaits_intro _ pd none p c fun w s t => by
    rw [howed]; exact (K (F := F)).mayWait_none _ (Otc_none c n)
  pre c := held n W c
  post c := held n Wp c
  X _ := BI.emp
  Y _ := BI.emp
  Z c := Pipeline.unscopedRest (Ix := HIx 1) (Name := ℕ) (U := UU) (Lvl := ℕ) (cfgs p).spec c (fun b => W c b)
  hentry c := by
    rw [Pipeline.ownSems0_none]
    have hsplit := Pipeline.arrays_of_unscopedBufs (p := p) (pcfgs (F := F)) adm pd hl.win hl.arr_whole c
      ((pd p c).share_full fun w => hq c w) (fun b => W c b) (hA c)
    unfold held
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed, hrec]
      icases HO with ⟨%w, %hw, HO⟩; iexists w; isplitr; · ipureintro; exact fun x hx => Or.inl (hw x hx)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) hl.win hl.arr_whole c
      pd ((pd p c).share_full fun w => hq c w) (fun b => W c b) (fun b => Wp c b) ((pd p c).arrAt · (cfgs p).N)
      (hout c) (hne c)
    unfold held
    iintro ⟨Ha, HO, -, Hrest⟩
    imodintro
    isplitl [Ha Hrest]
    · iapply hjoin; isplitl [Ha] <;> iassumption
    unfold Pipeline.Dat.owesAt Pipeline.owesWithin Pipeline.Dat.bound
    rw [howed, hrec]
    icases HO with ⟨%w, %hw, HO⟩; iexists w; isplitr
    · ipureintro; intro x hx
      rcases hw hx with h | ⟨w', s', rfl⟩
      · exact h
      · exact Nat.zero_le _
    iexact HO

end Cert.KernelIdeal.Run

end
-- ==== Proof.KI.Whole.lean ====
/-
  Loads and stores of a whole block.
-/
module

public import proofs.«01_k».proof.Proof.KI.Region

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

section
variable {κ' : Kind} {sp : Space} {s : Shape} {e : EltTy} {Val : EltTy → Type}

omit [FloatOps F] [Named F] in
/-- A rectangle of the shape's own sizes at the origin names every element by itself. -/
theorem unit_full {off : Fin s.rank → ℕ} (h : ∀ a, off a = 0) (inb : ∀ a, off a + s.size a ≤ s.size a) (y : s.Idx) :
    (Rect.unit off s.size inb).emb y = y := by
  funext a; apply Fin.ext
  show off a + 1 * (y a).val = (y a).val
  rw [h a]; omega

omit [FloatOps F] [Named F] in
/-- A load of the whole block reads what the view reads. -/
theorem readAt_full (v : View sig κ' sp s e) (f : v.ty.Contents Val) {off : Fin s.rank → ℕ} (h : ∀ a, off a = 0)
    (inb : ∀ a, off a + s.size a ≤ s.size a) :
    v.readAt Val (Rect.unit off s.size inb).toLoadRect f = v.read Val f :=
  funext fun y => congrArg (v.read Val f) (unit_full h inb y)

omit [FloatOps F] [Named F] in
/-- After a store of the whole block the view reads the payload. -/
theorem read_store_full (v : View sig κ' sp s e) (f : v.ty.Contents Val) {off : Fin s.rank → ℕ} (h : ∀ a, off a = 0)
    (inb : ∀ a, off a + s.size a ≤ s.size a) (w : s.Idx → Val e) (L : List (View.Piece Val s e)) :
    v.read Val (v.writes Val f (⟨Rect.unit off s.size inb, w⟩ :: L)) = w := by
  funext y
  have hr := View.read_writes_cons_emb (v := v) (f := f) (Rect.unit off s.size inb) w L y
  rwa [unit_full h inb y] at hr
end

omit [FloatOps F] [Named F] in
theorem zeros2 : ∀ a, (![0, 0] : Fin 2 → ℕ) a = 0 := by decide
omit [FloatOps F] [Named F] in
theorem zeros3 : ∀ a, (![0, 0, 0] : Fin 3 → ℕ) a = 0 := by decide
omit [FloatOps F] [Named F] in
theorem zeros4 : ∀ a, (![0, 0, 0, 0] : Fin 4 → ℕ) a = 0 := by decide

end Cert.KernelIdeal.Run

end
-- ==== Proof.KI.Mlp.lean ====
/-
  The first call: the two-layer transform of every atom, run on its one block.
-/
module

public import proofs.«01_k».proof.Proof.KI.Whole
public import proofs.«01_k».proof.Proof.Gen.KernelIdeal.Points
public import Idealize.ShloMosaic.Lib.Pipeline.FrameBody
public import Idealize.ShloMosaic.Lib.Pipeline.Value

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-- The body: from its five operands' buffers it leaves the transform of their contents in the result's. -/
theorem mlp_body (c : Dev nD) (M0 : Memref sig .tc .vmem S2048x128 .f32) (h0 : M0.IsWhole) (M1 : Memref sig .tc .vmem S128x128 .f32) (h1 : M1.IsWhole)
    (M2 : Memref sig .tc .vmem S1x128 .f32) (h2 : M2.IsWhole) (M3 : Memref sig .tc .vmem S128x128 .f32) (h3 : M3.IsWhole)
    (M4 : Memref sig .tc .vmem S1x128 .f32) (h4 : M4.IsWhole) (M5 : Memref sig .tc .vmem S2048x128 .f32) (h5 : M5.IsWhole)
    (X0 : Vec F S2048x128 .f32) (X1 : Vec F S128x128 .f32) (X2 : Vec F S1x128 .f32) (X3 : Vec F S128x128 .f32) (X4 : Vec F S1x128 .f32)
    (X5 : Vec F S2048x128 .f32) (E : Set ℕ) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare X4 ∗ owns (c : Thread nD τ) M5 fullShare X5
        ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare (k0_pay1 X0 X1 X2 X3 X4)) -∗ Q ⟨⟩))
      ⊢ wp frame (wpE (defs₀ (F := F)) 𝒱₀ c none) E (cc0__mlp_body M0 h0 M1 h1 M2 h2 M3 h3 M4 h4 M5 h5) Q := by
  rw [cc0__mlp_body_eq_skeleton]; unfold cc0__mlp_body_skel owns
  iintro ⟨⟨%f0, %e0, H0⟩, ⟨%f1, %e1, H1⟩, ⟨%f2, %e2, H2⟩, ⟨%f3, %e3, H3⟩, ⟨%f4, %e4, H4⟩, ⟨%f5, -, H5⟩, Hk⟩
  subst e0 e1 e2 e3 e4
  sl_exec!
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro
  exact (read_store_full _ _ zeros2 _ _ _).trans (by
    congr 1 <;> exact readAt_full _ _ zeros2 _)

/-- A window's block of the first call at a point, of its array at a valuation. -/
abbrev blk0 (W : Valuation τ sig (Elt F)) (w : Fin 6) (t : Fin cfg0.N) : ((cfg0.win w).xblock (cfg0.grid.coords t)).Idx → Elt F (cfg0.win w).elt :=
  ((cfg0.win w).blk t).view.read (Elt F) (W (Pipeline.arrRef spec0 w))

/-- The first call's proof data: its arrays at a valuation; every operand's buffer left as fetched, the result's at
    the transform of the operands' blocks. -/
def mlpDat (n : ℕ) (W : Dev nD → Valuation τ sig (Elt F)) (c : Dev nD) : Dat τ (Elt F) (HIx 1) ℕ UU ℕ cfg0 c where
  A w := W c (Pipeline.arrRef spec0 w)
  after w t := match w with
    | ⟨0, _⟩ => blk0 (W c) 0 t
    | ⟨1, _⟩ => blk0 (W c) 1 t
    | ⟨2, _⟩ => blk0 (W c) 2 t
    | ⟨3, _⟩ => blk0 (W c) 3 t
    | ⟨4, _⟩ => blk0 (W c) 4 t
    | ⟨5, _⟩ => k0_pay1 (blk0 (W c) 0 t) (blk0 (W c) 1 t) (blk0 (W c) 2 t) (blk0 (W c) 3 t) (blk0 (W c) 4 t)
  Φ _ := Pipeline.scopedRest (Ix := HIx 1) (Name := ℕ) (U := UU) (Lvl := ℕ) (Val := Elt F) spec0 c
  q _ := fullShare
  owed _ := (K (F := F)).Otc c n
  recorded _ := {x | (K (F := F)).lev (T c, x.1) x.2 ≤ 8 * n}

variable (n : ℕ) (W : Dev nD → Valuation τ sig (Elt F))

theorem mlp_before0 (c : Dev nD) (t : Fin cfg0.N) (d) : (mlpDat n W c).before 0 t d = blk0 (W c) 0 t :=
  ((mlpDat n W c).before_in_eq_fetched 0 rfl (fun _ => rfl) (fun _ _ _ => rfl) (fun _ => rfl) t d).trans rfl
theorem mlp_before1 (c : Dev nD) (t : Fin cfg0.N) (d) : (mlpDat n W c).before 1 t d = blk0 (W c) 1 t :=
  ((mlpDat n W c).before_in_eq_fetched 1 rfl (fun _ => rfl) (fun _ _ _ => rfl) (fun _ => rfl) t d).trans rfl
theorem mlp_before2 (c : Dev nD) (t : Fin cfg0.N) (d) : (mlpDat n W c).before 2 t d = blk0 (W c) 2 t :=
  ((mlpDat n W c).before_in_eq_fetched 2 rfl (fun _ => rfl) (fun _ _ _ => rfl) (fun _ => rfl) t d).trans rfl
theorem mlp_before3 (c : Dev nD) (t : Fin cfg0.N) (d) : (mlpDat n W c).before 3 t d = blk0 (W c) 3 t :=
  ((mlpDat n W c).before_in_eq_fetched 3 rfl (fun _ => rfl) (fun _ _ _ => rfl) (fun _ => rfl) t d).trans rfl
theorem mlp_before4 (c : Dev nD) (t : Fin cfg0.N) (d) : (mlpDat n W c).before 4 t d = blk0 (W c) 4 t :=
  ((mlpDat n W c).before_in_eq_fetched 4 rfl (fun _ => rfl) (fun _ _ _ => rfl) (fun _ => rfl) t d).trans rfl

/-- The body's obligation. -/
theorem mlp_obligation (c : Dev nD) : BodyObligation (mlpDat n W c) (defs₀ (F := F)) 𝒱₀ (none : HIx 1) Set.univ := fun t => by
  rw [bigSep_W0, bigSep_W0]
  rw [show (mlpDat n W c).Φ t.succ = (mlpDat n W c).Φ t.castSucc from rfl,
    show (mlpDat n W c).owesAt none t.succ = (mlpDat n W c).owesAt none t.castSucc from rfl]
  simp only [mlp_before0, mlp_before1, mlp_before2, mlp_before3, mlp_before4]
  iintro ⟨HΦ, Howes, ⟨%d0, H0⟩, ⟨%d1, H1⟩, ⟨%d2, H2⟩, ⟨%d3, H3⟩, ⟨%d4, H4⟩, ⟨%d5, H5⟩⟩
  iapply (mlp_body c _ (hstage0_0 0) _ (hstage0_1 0) _ (hstage0_2 0) _ (hstage0_3 0) _ (hstage0_4 0) _ (hstage0_5 0) (blk0 (W c) 0 t) (blk0 (W c) 1 t) (blk0 (W c) 2 t) (blk0 (W c) 3 t) (blk0 (W c) 4 t) _ Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-- The transform's array, of the valuation it is entered from. -/
def mlpOut (W : Valuation τ sig (Elt F)) : Vec F S2048x128 .f32 :=
  k0_pay1 (W main_v0) (W main_arg8) (W main_v1) (W main_arg10) (W main_v2)

/-! Each window's one block is its whole array. -/

theorem emb0_0 (y : ((cfg0.win 0).xblock (cfg0.grid.coords t0_0)).Idx) : ((cfg0.win 0).blk t0_0).view.emb y = y := by
  funext a; apply Fin.ext
  match a with
  | ⟨0, _⟩ => show 0 + 1 * (y 0).val = (y 0).val; omega
  | ⟨1, _⟩ => show 0 + 1 * (y 1).val = (y 1).val; omega
theorem emb0_1 (y : ((cfg0.win 1).xblock (cfg0.grid.coords t0_0)).Idx) : ((cfg0.win 1).blk t0_0).view.emb y = y := by
  funext a; apply Fin.ext
  match a with
  | ⟨0, _⟩ => show 0 + 1 * (y 0).val = (y 0).val; omega
  | ⟨1, _⟩ => show 0 + 1 * (y 1).val = (y 1).val; omega
theorem emb0_2 (y : ((cfg0.win 2).xblock (cfg0.grid.coords t0_0)).Idx) : ((cfg0.win 2).blk t0_0).view.emb y = y := by
  funext a; apply Fin.ext
  match a with
  | ⟨0, _⟩ => show 0 + 1 * (y 0).val = (y 0).val; omega
  | ⟨1, _⟩ => show 0 + 1 * (y 1).val = (y 1).val; omega
theorem emb0_3 (y : ((cfg0.win 3).xblock (cfg0.grid.coords t0_0)).Idx) : ((cfg0.win 3).blk t0_0).view.emb y = y := by
  funext a; apply Fin.ext
  match a with
  | ⟨0, _⟩ => show 0 + 1 * (y 0).val = (y 0).val; omega
  | ⟨1, _⟩ => show 0 + 1 * (y 1).val = (y 1).val; omega
theorem emb0_4 (y : ((cfg0.win 4).xblock (cfg0.grid.coords t0_0)).Idx) : ((cfg0.win 4).blk t0_0).view.emb y = y := by
  funext a; apply Fin.ext
  match a with
  | ⟨0, _⟩ => show 0 + 1 * (y 0).val = (y 0).val; omega
  | ⟨1, _⟩ => show 0 + 1 * (y 1).val = (y 1).val; omega
theorem emb0_5 (y : ((cfg0.win 5).xblock (cfg0.grid.coords t0_0)).Idx) : ((cfg0.win 5).blk t0_0).view.emb y = y := by
  funext a; apply Fin.ext
  match a with
  | ⟨0, _⟩ => show 0 + 1 * (y 0).val = (y 0).val; omega
  | ⟨1, _⟩ => show 0 + 1 * (y 1).val = (y 1).val; omega

theorem read0_0 (W : Valuation τ sig (Elt F)) : blk0 W 0 t0_0 = W (Pipeline.arrRef spec0 0) :=
  funext fun y => congrArg (W (Pipeline.arrRef spec0 0)) (emb0_0 y)
theorem read0_1 (W : Valuation τ sig (Elt F)) : blk0 W 1 t0_0 = W (Pipeline.arrRef spec0 1) :=
  funext fun y => congrArg (W (Pipeline.arrRef spec0 1)) (emb0_1 y)
theorem read0_2 (W : Valuation τ sig (Elt F)) : blk0 W 2 t0_0 = W (Pipeline.arrRef spec0 2) :=
  funext fun y => congrArg (W (Pipeline.arrRef spec0 2)) (emb0_2 y)
theorem read0_3 (W : Valuation τ sig (Elt F)) : blk0 W 3 t0_0 = W (Pipeline.arrRef spec0 3) :=
  funext fun y => congrArg (W (Pipeline.arrRef spec0 3)) (emb0_3 y)
theorem read0_4 (W : Valuation τ sig (Elt F)) : blk0 W 4 t0_0 = W (Pipeline.arrRef spec0 4) :=
  funext fun y => congrArg (W (Pipeline.arrRef spec0 4)) (emb0_4 y)

/-- The call's result array at its end. -/
theorem mlp_arr (c : Dev nD) : (mlpDat n W c).arrAt 5 cfg0.N = mlpOut (W c) := by
  refine (mlpDat n W c).arrAt_eq_of_cover 5 (mlpOut (W c)) (fun t _ => ?_) fun i => ⟨t0_0, flush0_5 t0_0, ?_⟩
  · obtain rfl := fin_N0 t
    refine Eq.trans (b := k0_pay1 (blk0 (W c) 0 t0_0) (blk0 (W c) 1 t0_0) (blk0 (W c) 2 t0_0) (blk0 (W c) 3 t0_0) (blk0 (W c) 4 t0_0)) rfl ?_
    rw [read0_0, read0_1, read0_2, read0_3, read0_4]
    exact funext fun y => (congrArg (mlpOut (W c)) (emb0_5 y)).symm
  · refine Finset.mem_map.mpr ⟨i, Finset.mem_univ _, ?_⟩
    exact emb0_5 i

end Cert.KernelIdeal.Run

end
-- ==== Proof.KI.Fuse.lean ====
/-
  The last call: the messages of a block of atoms and their pairs, run at any block.
-/
module

public import proofs.«01_k».proof.Proof.KI.Whole
public import proofs.«01_k».proof.Proof.Gen.KernelIdeal.Points
public import Idealize.ShloMosaic.Lib.Pipeline.FrameBody
public import Idealize.ShloMosaic.Lib.Pipeline.Value
public import Idealize.ShloMosaic.Lib.PointwiseCore

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

theorem slices_row (j : ℕ) (hj : j < 64) : S128x1280.Slices ![0, 20 * j] S128x20 :=
  ⟨rfl, fun a => match a with
    | ⟨0, _⟩ => by show 0 + 128 ≤ 128; omega
    | ⟨1, _⟩ => by show 20 * j + 20 ≤ 1280; omega⟩

/-- The filter of neighbour `j` of every atom of a block: the neighbour's 20 radial values by the filter's weights,
    and the bias. -/
def filtRow (x : Vec F S1x64x20x128 .f32) (w : Vec F S20x128 .f32) (b : Vec F S1x128 .f32) (j : ℕ) (hj : j < 64) : FVec F S128x128 .f32 :=
  addf (matmul dot_S128x20_S20x128_S128x128_1_0_0_1_n_n none
      (extractStridedSlice S128x20 ![0, 20 * j] (k2_pay1 x) (slices_row j hj)) (k2_pay2 w) (constant S128x128 .f32 0x00000000#32))
    (broadcastTo S128x128 (k2_pay3 b) broadcasts_S1x128_S128x128)

/-- The filters of a block's atoms, neighbour by neighbour. -/
def filt (x : Vec F S1x64x20x128 .f32) (w : Vec F S20x128 .f32) (b : Vec F S1x128 .f32) : Vec F S128x64x128 .f32 :=
  fun y => filtRow x w b (y 1).val (y 1).isLt (ix2 (y 0) (y 2))

/-- A neighbour's filters stored as one row of the block. -/
theorem filt_piece (x : Vec F S1x64x20x128 .f32) (w : Vec F S20x128 .f32) (b : Vec F S1x128 .f32) (j : ℕ) (hj : j < 64)
    (inb : ∀ a, (![0, j, 0] : Fin 3 → ℕ) a + S128x1x128.size a ≤ S128x64x128.size a)
    (u : (Rect.unit (s := S128x64x128) ![0, j, 0] S128x1x128.size inb).shape.Idx) :
    shapeCast S128x1x128 (filtRow x w b j hj) shapeCasts_S128x128_S128x1x128 u
      = filt x w b ((Rect.unit (s := S128x64x128) ![0, j, 0] S128x1x128.size inb).emb u) := by
  have h1 : (u 1).val = 0 := Nat.lt_one_iff.mp (u 1).isLt
  have key : ∀ (k : ℕ) (hk : k < 64) (y y' : S128x128.Idx), k = j → y' = y → filtRow x w b j hj y = filtRow x w b k hk y' := by
    rintro k hk y y' rfl rfl; rfl
  refine (shapeCast_apply _ _ u (ix2 (u 0) (u 2)) ?_).trans (key _ _ _ _ ?_ ?_)
  · rw [Shape.rowMajor_val_two, Shape.rowMajor_val_three]
    show (u 0).val * 128 + (u 2).val = ((u 0).val * 1 + (u 1).val) * 128 + (u 2).val
    rw [h1]; omega
  · show j + 1 * (u 1).val = j
    omega
  · refine Shape.idx_ext₂ ?_ ?_
    · show 0 + 1 * (u 0).val = (u 0).val; omega
    · show 0 + 1 * (u 2).val = (u 2).val; omega

/-- A buffer whose writes are each a row of the filters, all rows among them, reads the filters. -/
theorem filt_cov [∀ e, Nonempty (Elt F e)] (x : Vec F S1x64x20x128 .f32) (w : Vec F S20x128 .f32) (b : Vec F S1x128 .f32) {sp : Space}
    (v : View sig .tc sp S128x64x128 .f32) (L : List (View.Piece (Elt F) S128x64x128 .f32))
    (hL : ∀ p ∈ L, ∀ u : p.1.shape.Idx, p.2 u = filt x w b (p.1.emb u)) (hc : ∀ y, ∃ p ∈ L, y ∈ p.1.set)
    (inb : ∀ a, (![0, 0, 0] : Fin 3 → ℕ) a + S128x64x128.size a ≤ S128x64x128.size a) :
    v.readCov L (Rect.unit (s := S128x64x128) ![0, 0, 0] S128x64x128.size inb).toLoadRect = filt x w b := by
  unfold View.readCov
  rw [readAt_full v _ zeros3 inb]
  exact funext fun y => View.read_writes_apply_of_pieces v _ (filt x w b) L hL y (hc y)

/-- The updated pair features of a block. -/
def fuseP (X0 X1 : Vec F S8192x128 .f32) (X2 : Vec F S1x64x20x128 .f32) (X3 X4 : Vec F S1x64x128 .f32) (X6 : Vec F S128x128 .f32)
    (X7 : Vec F S20x128 .f32) (X8 : Vec F S1x128 .f32) : Vec F S8192x128 .f32 :=
  k2_pay84 (k2_pay81 (filt X2 X7 X8)) (k2_pay82 X3 X4) (iota .tc S8192x64 32 [1] iota_S8192x64_d1_w32) (iota .tc S8192x64 32 [0] iota_S8192x64_d0_w32)
    (Scalar.select (Scalar.cmpi .eq 64#32 0#32) 1#32 64#32) X6 X1 X0

/-- The updated atom features of a block. -/
def fuseA (X1 : Vec F S8192x128 .f32) (X2 : Vec F S1x64x20x128 .f32) (X3 X4 : Vec F S1x64x128 .f32) (X5 X6 : Vec F S128x128 .f32)
    (X7 : Vec F S20x128 .f32) (X8 : Vec F S1x128 .f32) : Vec F S128x128 .f32 :=
  k2_pay85 (k2_pay81 (filt X2 X7 X8)) (k2_pay82 X3 X4) (iota .tc S8192x64 32 [1] iota_S8192x64_d1_w32) (iota .tc S8192x64 32 [0] iota_S8192x64_d0_w32)
    (Scalar.select (Scalar.cmpi .eq 64#32 0#32) 1#32 64#32) X6 X1 X5

set_option maxHeartbeats 4000000 in
/-- The body at any point: from its operands' buffers it leaves the block's updated features in the two results'. -/
theorem fuse_body (c : Dev nD) (i : grid2.Coords) (M0 : Memref sig .tc .vmem S8192x128 .f32) (h0 : M0.IsWhole) (M1 : Memref sig .tc .vmem S8192x128 .f32) (h1 : M1.IsWhole) (M2 : Memref sig .tc .vmem S1x64x20x128 .f32) (h2 : M2.IsWhole) (M3 : Memref sig .tc .vmem S1x64x128 .f32) (h3 : M3.IsWhole) (M4 : Memref sig .tc .vmem S1x64x128 .f32) (h4 : M4.IsWhole) (M5 : Memref sig .tc .vmem S128x128 .f32) (h5 : M5.IsWhole) (M6 : Memref sig .tc .vmem S128x128 .f32) (h6 : M6.IsWhole) (M7 : Memref sig .tc .vmem S20x128 .f32) (h7 : M7.IsWhole) (M8 : Memref sig .tc .vmem S1x128 .f32) (h8 : M8.IsWhole) (M9 : Memref sig .tc .vmem S128x128 .f32) (h9 : M9.IsWhole) (M10 : Memref sig .tc .vmem S8192x128 .f32) (h10 : M10.IsWhole)
    (X0 : Vec F S8192x128 .f32) (X1 : Vec F S8192x128 .f32) (X2 : Vec F S1x64x20x128 .f32) (X3 : Vec F S1x64x128 .f32) (X4 : Vec F S1x64x128 .f32) (X5 : Vec F S128x128 .f32) (X6 : Vec F S128x128 .f32) (X7 : Vec F S20x128 .f32) (X8 : Vec F S1x128 .f32) (X9 : Vec F S128x128 .f32) (X10 : Vec F S8192x128 .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10
        ∗ (∃ f : Buf (Elt F) ((c : Thread nD τ).loc cc2_scratch0), ((c : Thread nD τ).loc cc2_scratch0) ↦{fullShare} f)
        ∗ (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare (fuseA X1 X2 X3 X4 X5 X6 X7 X8) ∗ owns (c : Thread nD τ) M10 fullShare (fuseP X0 X1 X2 X3 X4 X6 X7 X8)
            ∗ (∃ f : Buf (Elt F) ((c : Thread nD τ).loc cc2_scratch0), ((c : Thread nD τ).loc cc2_scratch0) ↦{fullShare} f)) -∗ Q ⟨⟩))
      ⊢ wp frame (wpE (defs₀ (F := F)) 𝒱₀ c none) E (cc2__fuse_body i M0 h0 M1 h1 M2 h2 M3 h3 M4 h4 M5 h5 M6 h6 M7 h7 M8 h8 M9 h9 M10 h10 (Memref.whole cc2_scratch0) (Memref.isWhole_whole _)) Q := by
  rw [cc2__fuse_body_eq_skeleton]; unfold cc2__fuse_body_skel owns
  rw [k2_part1_eq_skeleton]; unfold k2_part1_skel
  rw [k2_part2_eq_skeleton]; unfold k2_part2_skel
  rw [k2_part3_eq_skeleton]; unfold k2_part3_skel
  rw [k2_part4_eq_skeleton]; unfold k2_part4_skel
  rw [k2_part5_eq_skeleton]; unfold k2_part5_skel
  rw [k2_part6_eq_skeleton]; unfold k2_part6_skel
  rw [k2_part7_eq_skeleton]; unfold k2_part7_skel
  rw [k2_part8_eq_skeleton]; unfold k2_part8_skel
  rw [k2_part9_eq_skeleton]; unfold k2_part9_skel
  rw [k2_part10_eq_skeleton]; unfold k2_part10_skel
  rw [k2_part11_eq_skeleton]; unfold k2_part11_skel
  rw [k2_part12_eq_skeleton]; unfold k2_part12_skel
  rw [k2_part13_eq_skeleton]; unfold k2_part13_skel
  rw [k2_part14_eq_skeleton]; unfold k2_part14_skel
  rw [k2_part15_eq_skeleton]; unfold k2_part15_skel
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, -, H9⟩, ⟨%f10, -, H10⟩, ⟨%fs, HS⟩, Hk⟩
  subst e0 e1 e2 e3 e4 e5 e6 e7 e8
  sl_exec!
  sl_step
  sl_exec!
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  isplitl [H9]
  · iexists _; isplitr; swap; (· iexact H9); ipureintro
    refine (read_store_full _ _ zeros2 _ _ _).trans ?_
    unfold fuseA
    rw [← readAt_full M2.view f2 zeros4 inb_S1x64x20x128_S1x64x20x128_0_0_0_0, ← readAt_full M7.view f7 zeros2 inb_S20x128_S20x128_0_0,
      ← readAt_full M8.view f8 zeros2 inb_S1x128_S1x128_0_0]
    congr 2
    · refine filt_cov _ _ _ _ _ ?_ ?_ _
      · delta Cert.KernelIdeal.Run.fuse_body.sl.HS_64
        refine List.forall_mem_cons.mpr ⟨fun u => filt_piece _ _ _ 63 (by decide) inb_S128x64x128_S128x1x128_0_63_0 u, ?_⟩
        refine List.forall_mem_cons.mpr ⟨fun u => filt_piece _ _ _ 62 (by decide) inb_S128x64x128_S128x1x128_0_62_0 u, ?_⟩
        refine List.forall_mem_cons.mpr ⟨fun u => filt_piece _ _ _ 61 (by decide) inb_S128x64x128_S128x1x128_0_61_0 u, ?_⟩
        refine List.forall_mem_cons.mpr ⟨fun u => filt_piece _ _ _ 60 (by decide) inb_S128x64x128_S128x1x128_0_60_0 u, ?_⟩
        refine List.forall_mem_cons.mpr ⟨fun u => filt_piece _ _ _ 59 (by decide) inb_S128x64x128_S128x1x128_0_59_0 u, ?_⟩
        refine List.forall_mem_cons.mpr ⟨fun u => filt_piece _ _ _ 58 (by decide) inb_S128x64x128_S128x1x128_0_58_0 u, ?_⟩
        refine List.forall_mem_cons.mpr ⟨fun u => filt_piece _ _ _ 57 (by decide) inb_S128x64x128_S128x1x128_0_57_0 u, ?_⟩
        refine List.forall_mem_cons.mpr ⟨fun u => filt_piece _ _ _ 56 (by decide) inb_S128x64x128_S128x1x128_0_56_0 u, ?_⟩
        refine List.forall_mem_cons.mpr ⟨fun u => filt_piece _ _ _ 55 (by decide) inb_S128x64x128_S128x1x128_0_55_0 u, ?_⟩
        refine List.forall_mem_cons.mpr ⟨fun u => filt_piece _ _ _ 54 (by decide) inb_S128x64x128_S128x1x128_0_54_0 u, ?_⟩
        refine List.forall_mem_cons.mpr ⟨fun u => filt_piece _ _ _ 53 (by decide) inb_S128x64x128_S128x1x128_0_53_0 u, ?_⟩
        refine List.forall_mem_cons.mpr ⟨fun u => filt_piece _ _ _ 52 (by decide) inb_S128x64x128_S128x1x128_0_52_0 u, ?_⟩
        refine List.forall_mem_cons.mpr ⟨fun u => filt_piece _ _ _ 51 (by decide) inb_S128x64x128_S128x1x128_0_51_0 u, ?_⟩
        refine List.forall_mem_cons.mpr ⟨fun u => filt_piece _ _ _ 50 (by decide) inb_S128x64x128_S128x1x128_0_50_0 u, ?_⟩
        refine List.forall_mem_cons.mpr ⟨fun u => filt_piece _ _ _ 49 (by decide) inb_S128x64x128_S128x1x128_0_49_0 u, ?_⟩
        refine List.forall_mem_cons.mpr ⟨fun u => filt_piece _ _ _ 48 (by decide) inb_S128x64x128_S128x1x128_0_48_0 u, ?_⟩
        refine List.forall_mem_cons.mpr ⟨fun u => filt_piece _ _ _ 47 (by decide) inb_S128x64x128_S128x1x128_0_47_0 u, ?_⟩
        refine List.forall_mem_cons.mpr ⟨fun u => filt_piece _ _ _ 46 (by decide) inb_S128x64x128_S128x1x128_0_46_0 u, ?_⟩
        refine List.forall_mem_cons.mpr ⟨fun u => filt_piece _ _ _ 45 (by decide) inb_S128x64x128_S128x1x128_0_45_0 u, ?_⟩
        refine List.forall_mem_cons.mpr ⟨fun u => filt_piece _ _ _ 44 (by decide) inb_S128x64x128_S128x1x128_0_44_0 u, ?_⟩
        refine List.forall_mem_cons.mpr ⟨fun u => filt_piece _ _ _ 43 (by decide) inb_S128x64x128_S128x1x128_0_43_0 u, ?_⟩
        refine List.forall_mem_cons.mpr ⟨fun u => filt_piece _ _ _ 42 (by decide) inb_S128x64x128_S128x1x128_0_42_0 u, ?_⟩
        refine List.forall_mem_cons.mpr ⟨fun u => filt_piece _ _ _ 41 (by decide) inb_S128x64x128_S128x1x128_0_41_0 u, ?_⟩
        refine List.forall_mem_cons.mpr ⟨fun u => filt_piece _ _ _ 40 (by decide) inb_S128x64x128_S128x1x128_0_40_0 u, ?_⟩
        refine List.forall_mem_cons.mpr ⟨fun u => filt_piece _ _ _ 39 (by decide) inb_S128x64x128_S128x1x128_0_39_0 u, ?_⟩
        refine List.forall_mem_cons.mpr ⟨fun u => filt_piece _ _ _ 38 (by decide) inb_S128x64x128_S128x1x128_0_38_0 u, ?_⟩
        refine List.forall_mem_cons.mpr ⟨fun u => filt_piece _ _ _ 37 (by decide) inb_S128x64x128_S128x1x128_0_37_0 u, ?_⟩
        refine List.forall_mem_cons.mpr ⟨fun u => filt_piece _ _ _ 36 (by decide) inb_S128x64x128_S128x1x128_0_36_0 u, ?_⟩
        refine List.forall_mem_cons.mpr ⟨fun u => filt_piece _ _ _ 35 (by decide) inb_S128x64x128_S128x1x128_0_35_0 u, ?_⟩
        refine List.forall_mem_cons.mpr ⟨fun u => filt_piece _ _ _ 34 (by decide) inb_S128x64x128_S128x1x128_0_34_0 u, ?_⟩
        refine List.forall_mem_cons.mpr ⟨fun u => filt_piece _ _ _ 33 (by decide) inb_S128x64x128_S128x1x128_0_33_0 u, ?_⟩
        refine List.forall_mem_cons.mpr ⟨fun u => filt_piece _ _ _ 32 (by decide) inb_S128x64x128_S128x1x128_0_32_0 u, ?_⟩
        refine List.forall_mem_cons.mpr ⟨fun u => filt_piece _ _ _ 31 (by decide) inb_S128x64x128_S128x1x128_0_31_0 u, ?_⟩
        refine List.forall_mem_cons.mpr ⟨fun u => filt_piece _ _ _ 30 (by decide) inb_S128x64x128_S128x1x128_0_30_0 u, ?_⟩
        refine List.forall_mem_cons.mpr ⟨fun u => filt_piece _ _ _ 29 (by decide) inb_S128x64x128_S128x1x128_0_29_0 u, ?_⟩
        refine List.forall_mem_cons.mpr ⟨fun u => filt_piece _ _ _ 28 (by decide) inb_S128x64x128_S128x1x128_0_28_0 u, ?_⟩
        refine List.forall_mem_cons.mpr ⟨fun u => filt_piece _ _ _ 27 (by decide) inb_S128x64x128_S128x1x128_0_27_0 u, ?_⟩
        refine List.forall_mem_cons.mpr ⟨fun u => filt_piece _ _ _ 26 (by decide) inb_S128x64x128_S128x1x128_0_26_0 u, ?_⟩
        refine List.forall_mem_cons.mpr ⟨fun u => filt_piece _ _ _ 25 (by decide) inb_S128x64x128_S128x1x128_0_25_0 u, ?_⟩
        refine List.forall_mem_cons.mpr ⟨fun u => filt_piece _ _ _ 24 (by decide) inb_S128x64x128_S128x1x128_0_24_0 u, ?_⟩
        refine List.forall_mem_cons.mpr ⟨fun u => filt_piece _ _ _ 23 (by decide) inb_S128x64x128_S128x1x128_0_23_0 u, ?_⟩
        refine List.forall_mem_cons.mpr ⟨fun u => filt_piece _ _ _ 22 (by decide) inb_S128x64x128_S128x1x128_0_22_0 u, ?_⟩
        refine List.forall_mem_cons.mpr ⟨fun u => filt_piece _ _ _ 21 (by decide) inb_S128x64x128_S128x1x128_0_21_0 u, ?_⟩
        refine List.forall_mem_cons.mpr ⟨fun u => filt_piece _ _ _ 20 (by decide) inb_S128x64x128_S128x1x128_0_20_0 u, ?_⟩
        refine List.forall_mem_cons.mpr ⟨fun u => filt_piece _ _ _ 19 (by decide) inb_S128x64x128_S128x1x128_0_19_0 u, ?_⟩
        refine List.forall_mem_cons.mpr ⟨fun u => filt_piece _ _ _ 18 (by decide) inb_S128x64x128_S128x1x128_0_18_0 u, ?_⟩
        refine List.forall_mem_cons.mpr ⟨fun u => filt_piece _ _ _ 17 (by decide) inb_S128x64x128_S128x1x128_0_17_0 u, ?_⟩
        refine List.forall_mem_cons.mpr ⟨fun u => filt_piece _ _ _ 16 (by decide) inb_S128x64x128_S128x1x128_0_16_0 u, ?_⟩
        refine List.forall_mem_cons.mpr ⟨fun u => filt_piece _ _ _ 15 (by decide) inb_S128x64x128_S128x1x128_0_15_0 u, ?_⟩
        refine List.forall_mem_cons.mpr ⟨fun u => filt_piece _ _ _ 14 (by decide) inb_S128x64x128_S128x1x128_0_14_0 u, ?_⟩
        refine List.forall_mem_cons.mpr ⟨fun u => filt_piece _ _ _ 13 (by decide) inb_S128x64x128_S128x1x128_0_13_0 u, ?_⟩
        refine List.forall_mem_cons.mpr ⟨fun u => filt_piece _ _ _ 12 (by decide) inb_S128x64x128_S128x1x128_0_12_0 u, ?_⟩
        refine List.forall_mem_cons.mpr ⟨fun u => filt_piece _ _ _ 11 (by decide) inb_S128x64x128_S128x1x128_0_11_0 u, ?_⟩
        refine List.forall_mem_cons.mpr ⟨fun u => filt_piece _ _ _ 10 (by decide) inb_S128x64x128_S128x1x128_0_10_0 u, ?_⟩
        refine List.forall_mem_cons.mpr ⟨fun u => filt_piece _ _ _ 9 (by decide) inb_S128x64x128_S128x1x128_0_9_0 u, ?_⟩
        refine List.forall_mem_cons.mpr ⟨fun u => filt_piece _ _ _ 8 (by decide) inb_S128x64x128_S128x1x128_0_8_0 u, ?_⟩
        refine List.forall_mem_cons.mpr ⟨fun u => filt_piece _ _ _ 7 (by decide) inb_S128x64x128_S128x1x128_0_7_0 u, ?_⟩
        refine List.forall_mem_cons.mpr ⟨fun u => filt_piece _ _ _ 6 (by decide) inb_S128x64x128_S128x1x128_0_6_0 u, ?_⟩
        refine List.forall_mem_cons.mpr ⟨fun u => filt_piece _ _ _ 5 (by decide) inb_S128x64x128_S128x1x128_0_5_0 u, ?_⟩
        refine List.forall_mem_cons.mpr ⟨fun u => filt_piece _ _ _ 4 (by decide) inb_S128x64x128_S128x1x128_0_4_0 u, ?_⟩
        refine List.forall_mem_cons.mpr ⟨fun u => filt_piece _ _ _ 3 (by decide) inb_S128x64x128_S128x1x128_0_3_0 u, ?_⟩
        refine List.forall_mem_cons.mpr ⟨fun u => filt_piece _ _ _ 2 (by decide) inb_S128x64x128_S128x1x128_0_2_0 u, ?_⟩
        refine List.forall_mem_cons.mpr ⟨fun u => filt_piece _ _ _ 1 (by decide) inb_S128x64x128_S128x1x128_0_1_0 u, ?_⟩
        refine List.forall_mem_cons.mpr ⟨fun u => filt_piece _ _ _ 0 (by decide) inb_S128x64x128_S128x1x128_0_0_0 u, ?_⟩
        exact fun p hp => absurd hp List.not_mem_nil
      · exact fun y => View.cover_of_tiled (s := S128x64x128) _ ![128, 1, 128] rfl y
    · exact readAt_full _ _ zeros3 _
    · exact readAt_full _ _ zeros3 _
    · exact readAt_full _ _ zeros2 _
    · exact readAt_full _ _ zeros2 _
    · exact readAt_full _ _ zeros2 _
  isplitl [H10]
  · iexists _; isplitr; swap; (· iexact H10); ipureintro
    refine (read_store_full _ _ zeros2 _ _ _).trans ?_
    unfold fuseP
    rw [← readAt_full M2.view f2 zeros4 inb_S1x64x20x128_S1x64x20x128_0_0_0_0, ← readAt_full M7.view f7 zeros2 inb_S20x128_S20x128_0_0,
      ← readAt_full M8.view f8 zeros2 inb_S1x128_S1x128_0_0]
    congr 2
    · refine filt_cov _ _ _ _ _ ?_ ?_ _
      · delta Cert.KernelIdeal.Run.fuse_body.sl.HS_64
        refine List.forall_mem_cons.mpr ⟨fun u => filt_piece _ _ _ 63 (by decide) inb_S128x64x128_S128x1x128_0_63_0 u, ?_⟩
        refine List.forall_mem_cons.mpr ⟨fun u => filt_piece _ _ _ 62 (by decide) inb_S128x64x128_S128x1x128_0_62_0 u, ?_⟩
        refine List.forall_mem_cons.mpr ⟨fun u => filt_piece _ _ _ 61 (by decide) inb_S128x64x128_S128x1x128_0_61_0 u, ?_⟩
        refine List.forall_mem_cons.mpr ⟨fun u => filt_piece _ _ _ 60 (by decide) inb_S128x64x128_S128x1x128_0_60_0 u, ?_⟩
        refine List.forall_mem_cons.mpr ⟨fun u => filt_piece _ _ _ 59 (by decide) inb_S128x64x128_S128x1x128_0_59_0 u, ?_⟩
        refine List.forall_mem_cons.mpr ⟨fun u => filt_piece _ _ _ 58 (by decide) inb_S128x64x128_S128x1x128_0_58_0 u, ?_⟩
        refine List.forall_mem_cons.mpr ⟨fun u => filt_piece _ _ _ 57 (by decide) inb_S128x64x128_S128x1x128_0_57_0 u, ?_⟩
        refine List.forall_mem_cons.mpr ⟨fun u => filt_piece _ _ _ 56 (by decide) inb_S128x64x128_S128x1x128_0_56_0 u, ?_⟩
        refine List.forall_mem_cons.mpr ⟨fun u => filt_piece _ _ _ 55 (by decide) inb_S128x64x128_S128x1x128_0_55_0 u, ?_⟩
        refine List.forall_mem_cons.mpr ⟨fun u => filt_piece _ _ _ 54 (by decide) inb_S128x64x128_S128x1x128_0_54_0 u, ?_⟩
        refine List.forall_mem_cons.mpr ⟨fun u => filt_piece _ _ _ 53 (by decide) inb_S128x64x128_S128x1x128_0_53_0 u, ?_⟩
        refine List.forall_mem_cons.mpr ⟨fun u => filt_piece _ _ _ 52 (by decide) inb_S128x64x128_S128x1x128_0_52_0 u, ?_⟩
        refine List.forall_mem_cons.mpr ⟨fun u => filt_piece _ _ _ 51 (by decide) inb_S128x64x128_S128x1x128_0_51_0 u, ?_⟩
        refine List.forall_mem_cons.mpr ⟨fun u => filt_piece _ _ _ 50 (by decide) inb_S128x64x128_S128x1x128_0_50_0 u, ?_⟩
        refine List.forall_mem_cons.mpr ⟨fun u => filt_piece _ _ _ 49 (by decide) inb_S128x64x128_S128x1x128_0_49_0 u, ?_⟩
        refine List.forall_mem_cons.mpr ⟨fun u => filt_piece _ _ _ 48 (by decide) inb_S128x64x128_S128x1x128_0_48_0 u, ?_⟩
        refine List.forall_mem_cons.mpr ⟨fun u => filt_piece _ _ _ 47 (by decide) inb_S128x64x128_S128x1x128_0_47_0 u, ?_⟩
        refine List.forall_mem_cons.mpr ⟨fun u => filt_piece _ _ _ 46 (by decide) inb_S128x64x128_S128x1x128_0_46_0 u, ?_⟩
        refine List.forall_mem_cons.mpr ⟨fun u => filt_piece _ _ _ 45 (by decide) inb_S128x64x128_S128x1x128_0_45_0 u, ?_⟩
        refine List.forall_mem_cons.mpr ⟨fun u => filt_piece _ _ _ 44 (by decide) inb_S128x64x128_S128x1x128_0_44_0 u, ?_⟩
        refine List.forall_mem_cons.mpr ⟨fun u => filt_piece _ _ _ 43 (by decide) inb_S128x64x128_S128x1x128_0_43_0 u, ?_⟩
        refine List.forall_mem_cons.mpr ⟨fun u => filt_piece _ _ _ 42 (by decide) inb_S128x64x128_S128x1x128_0_42_0 u, ?_⟩
        refine List.forall_mem_cons.mpr ⟨fun u => filt_piece _ _ _ 41 (by decide) inb_S128x64x128_S128x1x128_0_41_0 u, ?_⟩
        refine List.forall_mem_cons.mpr ⟨fun u => filt_piece _ _ _ 40 (by decide) inb_S128x64x128_S128x1x128_0_40_0 u, ?_⟩
        refine List.forall_mem_cons.mpr ⟨fun u => filt_piece _ _ _ 39 (by decide) inb_S128x64x128_S128x1x128_0_39_0 u, ?_⟩
        refine List.forall_mem_cons.mpr ⟨fun u => filt_piece _ _ _ 38 (by decide) inb_S128x64x128_S128x1x128_0_38_0 u, ?_⟩
        refine List.forall_mem_cons.mpr ⟨fun u => filt_piece _ _ _ 37 (by decide) inb_S128x64x128_S128x1x128_0_37_0 u, ?_⟩
        refine List.forall_mem_cons.mpr ⟨fun u => filt_piece _ _ _ 36 (by decide) inb_S128x64x128_S128x1x128_0_36_0 u, ?_⟩
        refine List.forall_mem_cons.mpr ⟨fun u => filt_piece _ _ _ 35 (by decide) inb_S128x64x128_S128x1x128_0_35_0 u, ?_⟩
        refine List.forall_mem_cons.mpr ⟨fun u => filt_piece _ _ _ 34 (by decide) inb_S128x64x128_S128x1x128_0_34_0 u, ?_⟩
        refine List.forall_mem_cons.mpr ⟨fun u => filt_piece _ _ _ 33 (by decide) inb_S128x64x128_S128x1x128_0_33_0 u, ?_⟩
        refine List.forall_mem_cons.mpr ⟨fun u => filt_piece _ _ _ 32 (by decide) inb_S128x64x128_S128x1x128_0_32_0 u, ?_⟩
        refine List.forall_mem_cons.mpr ⟨fun u => filt_piece _ _ _ 31 (by decide) inb_S128x64x128_S128x1x128_0_31_0 u, ?_⟩
        refine List.forall_mem_cons.mpr ⟨fun u => filt_piece _ _ _ 30 (by decide) inb_S128x64x128_S128x1x128_0_30_0 u, ?_⟩
        refine List.forall_mem_cons.mpr ⟨fun u => filt_piece _ _ _ 29 (by decide) inb_S128x64x128_S128x1x128_0_29_0 u, ?_⟩
        refine List.forall_mem_cons.mpr ⟨fun u => filt_piece _ _ _ 28 (by decide) inb_S128x64x128_S128x1x128_0_28_0 u, ?_⟩
        refine List.forall_mem_cons.mpr ⟨fun u => filt_piece _ _ _ 27 (by decide) inb_S128x64x128_S128x1x128_0_27_0 u, ?_⟩
        refine List.forall_mem_cons.mpr ⟨fun u => filt_piece _ _ _ 26 (by decide) inb_S128x64x128_S128x1x128_0_26_0 u, ?_⟩
        refine List.forall_mem_cons.mpr ⟨fun u => filt_piece _ _ _ 25 (by decide) inb_S128x64x128_S128x1x128_0_25_0 u, ?_⟩
        refine List.forall_mem_cons.mpr ⟨fun u => filt_piece _ _ _ 24 (by decide) inb_S128x64x128_S128x1x128_0_24_0 u, ?_⟩
        refine List.forall_mem_cons.mpr ⟨fun u => filt_piece _ _ _ 23 (by decide) inb_S128x64x128_S128x1x128_0_23_0 u, ?_⟩
        refine List.forall_mem_cons.mpr ⟨fun u => filt_piece _ _ _ 22 (by decide) inb_S128x64x128_S128x1x128_0_22_0 u, ?_⟩
        refine List.forall_mem_cons.mpr ⟨fun u => filt_piece _ _ _ 21 (by decide) inb_S128x64x128_S128x1x128_0_21_0 u, ?_⟩
        refine List.forall_mem_cons.mpr ⟨fun u => filt_piece _ _ _ 20 (by decide) inb_S128x64x128_S128x1x128_0_20_0 u, ?_⟩
        refine List.forall_mem_cons.mpr ⟨fun u => filt_piece _ _ _ 19 (by decide) inb_S128x64x128_S128x1x128_0_19_0 u, ?_⟩
        refine List.forall_mem_cons.mpr ⟨fun u => filt_piece _ _ _ 18 (by decide) inb_S128x64x128_S128x1x128_0_18_0 u, ?_⟩
        refine List.forall_mem_cons.mpr ⟨fun u => filt_piece _ _ _ 17 (by decide) inb_S128x64x128_S128x1x128_0_17_0 u, ?_⟩
        refine List.forall_mem_cons.mpr ⟨fun u => filt_piece _ _ _ 16 (by decide) inb_S128x64x128_S128x1x128_0_16_0 u, ?_⟩
        refine List.forall_mem_cons.mpr ⟨fun u => filt_piece _ _ _ 15 (by decide) inb_S128x64x128_S128x1x128_0_15_0 u, ?_⟩
        refine List.forall_mem_cons.mpr ⟨fun u => filt_piece _ _ _ 14 (by decide) inb_S128x64x128_S128x1x128_0_14_0 u, ?_⟩
        refine List.forall_mem_cons.mpr ⟨fun u => filt_piece _ _ _ 13 (by decide) inb_S128x64x128_S128x1x128_0_13_0 u, ?_⟩
        refine List.forall_mem_cons.mpr ⟨fun u => filt_piece _ _ _ 12 (by decide) inb_S128x64x128_S128x1x128_0_12_0 u, ?_⟩
        refine List.forall_mem_cons.mpr ⟨fun u => filt_piece _ _ _ 11 (by decide) inb_S128x64x128_S128x1x128_0_11_0 u, ?_⟩
        refine List.forall_mem_cons.mpr ⟨fun u => filt_piece _ _ _ 10 (by decide) inb_S128x64x128_S128x1x128_0_10_0 u, ?_⟩
        refine List.forall_mem_cons.mpr ⟨fun u => filt_piece _ _ _ 9 (by decide) inb_S128x64x128_S128x1x128_0_9_0 u, ?_⟩
        refine List.forall_mem_cons.mpr ⟨fun u => filt_piece _ _ _ 8 (by decide) inb_S128x64x128_S128x1x128_0_8_0 u, ?_⟩
        refine List.forall_mem_cons.mpr ⟨fun u => filt_piece _ _ _ 7 (by decide) inb_S128x64x128_S128x1x128_0_7_0 u, ?_⟩
        refine List.forall_mem_cons.mpr ⟨fun u => filt_piece _ _ _ 6 (by decide) inb_S128x64x128_S128x1x128_0_6_0 u, ?_⟩
        refine List.forall_mem_cons.mpr ⟨fun u => filt_piece _ _ _ 5 (by decide) inb_S128x64x128_S128x1x128_0_5_0 u, ?_⟩
        refine List.forall_mem_cons.mpr ⟨fun u => filt_piece _ _ _ 4 (by decide) inb_S128x64x128_S128x1x128_0_4_0 u, ?_⟩
        refine List.forall_mem_cons.mpr ⟨fun u => filt_piece _ _ _ 3 (by decide) inb_S128x64x128_S128x1x128_0_3_0 u, ?_⟩
        refine List.forall_mem_cons.mpr ⟨fun u => filt_piece _ _ _ 2 (by decide) inb_S128x64x128_S128x1x128_0_2_0 u, ?_⟩
        refine List.forall_mem_cons.mpr ⟨fun u => filt_piece _ _ _ 1 (by decide) inb_S128x64x128_S128x1x128_0_1_0 u, ?_⟩
        refine List.forall_mem_cons.mpr ⟨fun u => filt_piece _ _ _ 0 (by decide) inb_S128x64x128_S128x1x128_0_0_0 u, ?_⟩
        exact fun p hp => absurd hp List.not_mem_nil
      · exact fun y => View.cover_of_tiled (s := S128x64x128) _ ![128, 1, 128] rfl y
    · exact readAt_full _ _ zeros3 _
    · exact readAt_full _ _ zeros3 _
    · exact readAt_full _ _ zeros2 _
    · exact readAt_full _ _ zeros2 _
    · exact readAt_full _ _ zeros2 _
  iexists _; iexact HS

end Cert.KernelIdeal.Run

end
-- ==== Proof.KI.FuseRegion.lean ====
/-
  The last call: its proof data at every point of its grid, and its two results at its end.
-/
module

public import proofs.«01_k».proof.Proof.KI.Fuse

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-- A window's block of the last call at a point, of its array at a valuation. -/
abbrev blk2 (W : Valuation τ sig (Elt F)) (w : Fin 11) (t : Fin cfg2.N) : ((cfg2.win w).xblock (cfg2.grid.coords t)).Idx → Elt F (cfg2.win w).elt :=
  ((cfg2.win w).blk t).view.read (Elt F) (W (Pipeline.arrRef spec2 w))

/-- The last call's proof data: its arrays at a valuation; every operand's buffer left as fetched, the results' at the
    updated features of the operands' blocks. -/
def fuseDat (n : ℕ) (W : Dev nD → Valuation τ sig (Elt F)) (c : Dev nD) : Dat τ (Elt F) (HIx 1) ℕ UU ℕ cfg2 c where
  A w := W c (Pipeline.arrRef spec2 w)
  after w t := match w with
    | ⟨0, _⟩ => blk2 (W c) 0 t
    | ⟨1, _⟩ => blk2 (W c) 1 t
    | ⟨2, _⟩ => blk2 (W c) 2 t
    | ⟨3, _⟩ => blk2 (W c) 3 t
    | ⟨4, _⟩ => blk2 (W c) 4 t
    | ⟨5, _⟩ => blk2 (W c) 5 t
    | ⟨6, _⟩ => blk2 (W c) 6 t
    | ⟨7, _⟩ => blk2 (W c) 7 t
    | ⟨8, _⟩ => blk2 (W c) 8 t
    | ⟨9, _⟩ => fuseA (blk2 (W c) 1 t) (blk2 (W c) 2 t) (blk2 (W c) 3 t) (blk2 (W c) 4 t) (blk2 (W c) 5 t) (blk2 (W c) 6 t) (blk2 (W c) 7 t) (blk2 (W c) 8 t)
    | ⟨10, _⟩ => fuseP (blk2 (W c) 0 t) (blk2 (W c) 1 t) (blk2 (W c) 2 t) (blk2 (W c) 3 t) (blk2 (W c) 4 t) (blk2 (W c) 6 t) (blk2 (W c) 7 t) (blk2 (W c) 8 t)
  Φ _ := Pipeline.scopedRest (Ix := HIx 1) (Name := ℕ) (U := UU) (Lvl := ℕ) (Val := Elt F) spec2 c
  q _ := fullShare
  owed _ := (K (F := F)).Otc c n
  recorded _ := {x | (K (F := F)).lev (T c, x.1) x.2 ≤ 8 * n}

variable (n : ℕ) (W : Dev nD → Valuation τ sig (Elt F))

theorem fuse_before0 (c : Dev nD) (t : Fin cfg2.N) (d) : (fuseDat n W c).before 0 t d = blk2 (W c) 0 t :=
  ((fuseDat n W c).before_in_eq_fetched 0 rfl (fun _ => rfl) (fun _ _ _ => rfl) (fun _ => rfl) t d).trans rfl
theorem fuse_before1 (c : Dev nD) (t : Fin cfg2.N) (d) : (fuseDat n W c).before 1 t d = blk2 (W c) 1 t :=
  ((fuseDat n W c).before_in_eq_fetched 1 rfl (fun _ => rfl) (fun _ _ _ => rfl) (fun _ => rfl) t d).trans rfl
theorem fuse_before2 (c : Dev nD) (t : Fin cfg2.N) (d) : (fuseDat n W c).before 2 t d = blk2 (W c) 2 t :=
  ((fuseDat n W c).before_in_eq_fetched 2 rfl (fun _ => rfl) (fun _ _ _ => rfl) (fun _ => rfl) t d).trans rfl
theorem fuse_before3 (c : Dev nD) (t : Fin cfg2.N) (d) : (fuseDat n W c).before 3 t d = blk2 (W c) 3 t :=
  ((fuseDat n W c).before_in_eq_fetched 3 rfl (fun _ => rfl) (fun _ _ _ => rfl) (fun _ => rfl) t d).trans rfl
theorem fuse_before4 (c : Dev nD) (t : Fin cfg2.N) (d) : (fuseDat n W c).before 4 t d = blk2 (W c) 4 t :=
  ((fuseDat n W c).before_in_eq_fetched 4 rfl (fun _ => rfl) (fun _ _ _ => rfl) (fun _ => rfl) t d).trans rfl
theorem fuse_before5 (c : Dev nD) (t : Fin cfg2.N) (d) : (fuseDat n W c).before 5 t d = blk2 (W c) 5 t :=
  ((fuseDat n W c).before_in_eq_fetched 5 rfl (fun _ => rfl) (fun _ _ _ => rfl) (fun _ => rfl) t d).trans rfl
theorem fuse_before6 (c : Dev nD) (t : Fin cfg2.N) (d) : (fuseDat n W c).before 6 t d = blk2 (W c) 6 t :=
  ((fuseDat n W c).before_in_eq_fetched 6 rfl (fun _ => rfl) (fun _ _ _ => rfl) (fun _ => rfl) t d).trans rfl
theorem fuse_before7 (c : Dev nD) (t : Fin cfg2.N) (d) : (fuseDat n W c).before 7 t d = blk2 (W c) 7 t :=
  ((fuseDat n W c).before_in_eq_fetched 7 rfl (fun _ => rfl) (fun _ _ _ => rfl) (fun _ => rfl) t d).trans rfl
theorem fuse_before8 (c : Dev nD) (t : Fin cfg2.N) (d) : (fuseDat n W c).before 8 t d = blk2 (W c) 8 t :=
  ((fuseDat n W c).before_in_eq_fetched 8 rfl (fun _ => rfl) (fun _ _ _ => rfl) (fun _ => rfl) t d).trans rfl

set_option maxHeartbeats 1000000 in
/-- The body's obligation. -/
theorem fuse_obligation (c : Dev nD) : BodyObligation (fuseDat n W c) (defs₀ (F := F)) 𝒱₀ (none : HIx 1) Set.univ := fun t => by
  rw [bigSep_W2, bigSep_W2]
  rw [show (fuseDat n W c).Φ t.succ = Pipeline.scopedRest (Ix := HIx 1) (Name := ℕ) (U := UU) (Lvl := ℕ) (Val := Elt F) spec2 c from rfl,
    show (fuseDat n W c).Φ t.castSucc = Pipeline.scopedRest (Ix := HIx 1) (Name := ℕ) (U := UU) (Lvl := ℕ) (Val := Elt F) spec2 c from rfl,
    show (fuseDat n W c).owesAt none t.succ = (fuseDat n W c).owesAt none t.castSucc from rfl, scopedRest2_eq]
  simp only [fuse_before0, fuse_before1, fuse_before2, fuse_before3, fuse_before4, fuse_before5, fuse_before6, fuse_before7, fuse_before8]
  iintro ⟨⟨Ha, Hb, Hc, Hd, He, Hf, HS⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (fuse_body c (grid2.coords t) _ (hstage2_0 ((cfg2.slots t 0).cast nbuf2_0)) _ (hstage2_1 ((cfg2.slots t 1).cast nbuf2_1)) _ (hstage2_2 ((cfg2.slots t 2).cast nbuf2_2)) _ (hstage2_3 ((cfg2.slots t 3).cast nbuf2_3)) _ (hstage2_4 ((cfg2.slots t 4).cast nbuf2_4)) _ (hstage2_5 ((cfg2.slots t 5).cast nbuf2_5)) _ (hstage2_6 ((cfg2.slots t 6).cast nbuf2_6)) _ (hstage2_7 ((cfg2.slots t 7).cast nbuf2_7)) _ (hstage2_8 ((cfg2.slots t 8).cast nbuf2_8)) _ (hstage2_9 ((cfg2.slots t 9).cast nbuf2_9)) _ (hstage2_10 ((cfg2.slots t 10).cast nbuf2_10)) (blk2 (W c) 0 t) (blk2 (W c) 1 t) (blk2 (W c) 2 t) (blk2 (W c) 3 t) (blk2 (W c) 4 t) (blk2 (W c) 5 t) (blk2 (W c) 6 t) (blk2 (W c) 7 t) (blk2 (W c) 8 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS]; · iexact HS
  iintro ⟨H0, H1, H2, H3, H4, H5, H6, H7, H8, H9, H10, HS⟩
  isplitl [Ha Hb Hc Hd He Hf HS]
  · isplitl [Ha]; · iexact Ha
    isplitl [Hb]; · iexact Hb
    isplitl [Hc]; · iexact Hc
    isplitl [Hd]; · iexact Hd
    isplitl [He]; · iexact He
    isplitl [Hf]; · iexact Hf
    iexact HS
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! Where each window's block lies in its array. -/

theorem tr2_0 : ∀ t : Fin grid2.N, cc2_transform_0 (grid2.coords t) = ![t.val, 0] := by decide +kernel
theorem tr2_1 : ∀ t : Fin grid2.N, cc2_transform_1 (grid2.coords t) = ![t.val, 0] := by decide +kernel
theorem tr2_2 : ∀ t : Fin grid2.N, cc2_transform_2 (grid2.coords t) = ![t.val / 4, 0, 0, t.val % 4] := by decide +kernel
theorem tr2_3 : ∀ t : Fin grid2.N, cc2_transform_3 (grid2.coords t) = ![t.val / 4, 0, t.val % 4] := by decide +kernel
theorem tr2_4 : ∀ t : Fin grid2.N, cc2_transform_4 (grid2.coords t) = ![t.val / 4, 0, t.val % 4] := by decide +kernel
theorem tr2_5 : ∀ t : Fin grid2.N, cc2_transform_5 (grid2.coords t) = ![t.val, 0] := by decide +kernel
theorem tr2_6 : ∀ t : Fin grid2.N, cc2_transform_6 (grid2.coords t) = ![t.val, 0] := by decide +kernel
theorem tr2_7 : ∀ t : Fin grid2.N, cc2_transform_7 (grid2.coords t) = ![0, 0] := by decide +kernel
theorem tr2_8 : ∀ t : Fin grid2.N, cc2_transform_8 (grid2.coords t) = ![0, 0] := by decide +kernel
theorem tr2_9 : ∀ t : Fin grid2.N, cc2_transform_9 (grid2.coords t) = ![t.val, 0] := by decide +kernel
theorem tr2_10 : ∀ t : Fin grid2.N, cc2_transform_10 (grid2.coords t) = ![t.val, 0] := by decide +kernel

theorem emb2_0 (t : Fin cfg2.N) (y : ((cfg2.win 0).xblock (cfg2.grid.coords t)).Idx) :
    (((cfg2.win 0).blk t).view.emb y 0).val = t.val * 8192 + (y 0).val
      ∧ (((cfg2.win 0).blk t).view.emb y 1).val = 0 * 128 + (y 1).val := by
  refine ⟨?_, ?_⟩
  · show cc2_transform_0 (grid2.coords t) 0 * 8192 + 1 * (y 0).val = _; rw [tr2_0]; show t.val * 8192 + 1 * (y 0).val = _; omega
  · show cc2_transform_0 (grid2.coords t) 1 * 128 + 1 * (y 1).val = _; rw [tr2_0]; show 0 * 128 + 1 * (y 1).val = _; omega
theorem emb2_1 (t : Fin cfg2.N) (y : ((cfg2.win 1).xblock (cfg2.grid.coords t)).Idx) :
    (((cfg2.win 1).blk t).view.emb y 0).val = t.val * 8192 + (y 0).val
      ∧ (((cfg2.win 1).blk t).view.emb y 1).val = 0 * 128 + (y 1).val := by
  refine ⟨?_, ?_⟩
  · show cc2_transform_1 (grid2.coords t) 0 * 8192 + 1 * (y 0).val = _; rw [tr2_1]; show t.val * 8192 + 1 * (y 0).val = _; omega
  · show cc2_transform_1 (grid2.coords t) 1 * 128 + 1 * (y 1).val = _; rw [tr2_1]; show 0 * 128 + 1 * (y 1).val = _; omega
theorem emb2_2 (t : Fin cfg2.N) (y : ((cfg2.win 2).xblock (cfg2.grid.coords t)).Idx) :
    (((cfg2.win 2).blk t).view.emb y 0).val = t.val / 4 * 1 + (y 0).val
      ∧ (((cfg2.win 2).blk t).view.emb y 1).val = 0 * 64 + (y 1).val
      ∧ (((cfg2.win 2).blk t).view.emb y 2).val = 0 * 20 + (y 2).val
      ∧ (((cfg2.win 2).blk t).view.emb y 3).val = t.val % 4 * 128 + (y 3).val := by
  refine ⟨?_, ?_, ?_, ?_⟩
  · show cc2_transform_2 (grid2.coords t) 0 * 1 + 1 * (y 0).val = _; rw [tr2_2]; show t.val / 4 * 1 + 1 * (y 0).val = _; omega
  · show cc2_transform_2 (grid2.coords t) 1 * 64 + 1 * (y 1).val = _; rw [tr2_2]; show 0 * 64 + 1 * (y 1).val = _; omega
  · show cc2_transform_2 (grid2.coords t) 2 * 20 + 1 * (y 2).val = _; rw [tr2_2]; show 0 * 20 + 1 * (y 2).val = _; omega
  · show cc2_transform_2 (grid2.coords t) 3 * 128 + 1 * (y 3).val = _; rw [tr2_2]; show t.val % 4 * 128 + 1 * (y 3).val = _; omega
theorem emb2_3 (t : Fin cfg2.N) (y : ((cfg2.win 3).xblock (cfg2.grid.coords t)).Idx) :
    (((cfg2.win 3).blk t).view.emb y 0).val = t.val / 4 * 1 + (y 0).val
      ∧ (((cfg2.win 3).blk t).view.emb y 1).val = 0 * 64 + (y 1).val
      ∧ (((cfg2.win 3).blk t).view.emb y 2).val = t.val % 4 * 128 + (y 2).val := by
  refine ⟨?_, ?_, ?_⟩
  · show cc2_transform_3 (grid2.coords t) 0 * 1 + 1 * (y 0).val = _; rw [tr2_3]; show t.val / 4 * 1 + 1 * (y 0).val = _; omega
  · show cc2_transform_3 (grid2.coords t) 1 * 64 + 1 * (y 1).val = _; rw [tr2_3]; show 0 * 64 + 1 * (y 1).val = _; omega
  · show cc2_transform_3 (grid2.coords t) 2 * 128 + 1 * (y 2).val = _; rw [tr2_3]; show t.val % 4 * 128 + 1 * (y 2).val = _; omega
theorem emb2_4 (t : Fin cfg2.N) (y : ((cfg2.win 4).xblock (cfg2.grid.coords t)).Idx) :
    (((cfg2.win 4).blk t).view.emb y 0).val = t.val / 4 * 1 + (y 0).val
      ∧ (((cfg2.win 4).blk t).view.emb y 1).val = 0 * 64 + (y 1).val
      ∧ (((cfg2.win 4).blk t).view.emb y 2).val = t.val % 4 * 128 + (y 2).val := by
  refine ⟨?_, ?_, ?_⟩
  · show cc2_transform_4 (grid2.coords t) 0 * 1 + 1 * (y 0).val = _; rw [tr2_4]; show t.val / 4 * 1 + 1 * (y 0).val = _; omega
  · show cc2_transform_4 (grid2.coords t) 1 * 64 + 1 * (y 1).val = _; rw [tr2_4]; show 0 * 64 + 1 * (y 1).val = _; omega
  · show cc2_transform_4 (grid2.coords t) 2 * 128 + 1 * (y 2).val = _; rw [tr2_4]; show t.val % 4 * 128 + 1 * (y 2).val = _; omega
theorem emb2_5 (t : Fin cfg2.N) (y : ((cfg2.win 5).xblock (cfg2.grid.coords t)).Idx) :
    (((cfg2.win 5).blk t).view.emb y 0).val = t.val * 128 + (y 0).val
      ∧ (((cfg2.win 5).blk t).view.emb y 1).val = 0 * 128 + (y 1).val := by
  refine ⟨?_, ?_⟩
  · show cc2_transform_5 (grid2.coords t) 0 * 128 + 1 * (y 0).val = _; rw [tr2_5]; show t.val * 128 + 1 * (y 0).val = _; omega
  · show cc2_transform_5 (grid2.coords t) 1 * 128 + 1 * (y 1).val = _; rw [tr2_5]; show 0 * 128 + 1 * (y 1).val = _; omega
theorem emb2_6 (t : Fin cfg2.N) (y : ((cfg2.win 6).xblock (cfg2.grid.coords t)).Idx) :
    (((cfg2.win 6).blk t).view.emb y 0).val = t.val * 128 + (y 0).val
      ∧ (((cfg2.win 6).blk t).view.emb y 1).val = 0 * 128 + (y 1).val := by
  refine ⟨?_, ?_⟩
  · show cc2_transform_6 (grid2.coords t) 0 * 128 + 1 * (y 0).val = _; rw [tr2_6]; show t.val * 128 + 1 * (y 0).val = _; omega
  · show cc2_transform_6 (grid2.coords t) 1 * 128 + 1 * (y 1).val = _; rw [tr2_6]; show 0 * 128 + 1 * (y 1).val = _; omega
theorem emb2_7 (t : Fin cfg2.N) (y : ((cfg2.win 7).xblock (cfg2.grid.coords t)).Idx) :
    (((cfg2.win 7).blk t).view.emb y 0).val = 0 * 20 + (y 0).val
      ∧ (((cfg2.win 7).blk t).view.emb y 1).val = 0 * 128 + (y 1).val := by
  refine ⟨?_, ?_⟩
  · show cc2_transform_7 (grid2.coords t) 0 * 20 + 1 * (y 0).val = _; rw [tr2_7]; show 0 * 20 + 1 * (y 0).val = _; omega
  · show cc2_transform_7 (grid2.coords t) 1 * 128 + 1 * (y 1).val = _; rw [tr2_7]; show 0 * 128 + 1 * (y 1).val = _; omega
theorem emb2_8 (t : Fin cfg2.N) (y : ((cfg2.win 8).xblock (cfg2.grid.coords t)).Idx) :
    (((cfg2.win 8).blk t).view.emb y 0).val = 0 * 1 + (y 0).val
      ∧ (((cfg2.win 8).blk t).view.emb y 1).val = 0 * 128 + (y 1).val := by
  refine ⟨?_, ?_⟩
  · show cc2_transform_8 (grid2.coords t) 0 * 1 + 1 * (y 0).val = _; rw [tr2_8]; show 0 * 1 + 1 * (y 0).val = _; omega
  · show cc2_transform_8 (grid2.coords t) 1 * 128 + 1 * (y 1).val = _; rw [tr2_8]; show 0 * 128 + 1 * (y 1).val = _; omega
theorem emb2_9 (t : Fin cfg2.N) (y : ((cfg2.win 9).xblock (cfg2.grid.coords t)).Idx) :
    (((cfg2.win 9).blk t).view.emb y 0).val = t.val * 128 + (y 0).val
      ∧ (((cfg2.win 9).blk t).view.emb y 1).val = 0 * 128 + (y 1).val := by
  refine ⟨?_, ?_⟩
  · show cc2_transform_9 (grid2.coords t) 0 * 128 + 1 * (y 0).val = _; rw [tr2_9]; show t.val * 128 + 1 * (y 0).val = _; omega
  · show cc2_transform_9 (grid2.coords t) 1 * 128 + 1 * (y 1).val = _; rw [tr2_9]; show 0 * 128 + 1 * (y 1).val = _; omega
theorem emb2_10 (t : Fin cfg2.N) (y : ((cfg2.win 10).xblock (cfg2.grid.coords t)).Idx) :
    (((cfg2.win 10).blk t).view.emb y 0).val = t.val * 8192 + (y 0).val
      ∧ (((cfg2.win 10).blk t).view.emb y 1).val = 0 * 128 + (y 1).val := by
  refine ⟨?_, ?_⟩
  · show cc2_transform_10 (grid2.coords t) 0 * 8192 + 1 * (y 0).val = _; rw [tr2_10]; show t.val * 8192 + 1 * (y 0).val = _; omega
  · show cc2_transform_10 (grid2.coords t) 1 * 128 + 1 * (y 1).val = _; rw [tr2_10]; show 0 * 128 + 1 * (y 1).val = _; omega

/-- The point whose block holds an atom. -/
def ptOf (k : ℕ) (hk : k < 16) : Fin cfg2.N := ⟨k, hk.trans_eq (show (16 : ℕ) = cfg2.N from N_2.symm)⟩

/-- The updated atom features, of the valuation the call is entered from. -/
def fuseAOut (W : Valuation τ sig (Elt F)) : Vec F S2048x128 .f32 := fun i =>
  have h : (i 0).val / 128 < 16 := Nat.div_lt_of_lt_mul (i 0).isLt
  let t := ptOf ((i 0).val / 128) h
  fuseA (blk2 W 1 t) (blk2 W 2 t) (blk2 W 3 t) (blk2 W 4 t) (blk2 W 5 t) (blk2 W 6 t) (blk2 W 7 t) (blk2 W 8 t)
    (ix2 ⟨(i 0).val % 128, Nat.mod_lt _ (by decide)⟩ (i 1))

/-- The updated pair features, of the valuation the call is entered from. -/
def fusePOut (W : Valuation τ sig (Elt F)) : Vec F S131072x128 .f32 := fun i =>
  have h : (i 0).val / 8192 < 16 := Nat.div_lt_of_lt_mul (i 0).isLt
  let t := ptOf ((i 0).val / 8192) h
  fuseP (blk2 W 0 t) (blk2 W 1 t) (blk2 W 2 t) (blk2 W 3 t) (blk2 W 4 t) (blk2 W 6 t) (blk2 W 7 t) (blk2 W 8 t)
    (ix2 ⟨(i 0).val % 8192, Nat.mod_lt _ (by decide)⟩ (i 1))

theorem fuseAOut_block (W : Valuation τ sig (Elt F)) (t : Fin cfg2.N) (y : S128x128.Idx) (i : S2048x128.Idx)
    (h0 : (i 0).val = t.val * 128 + (y 0).val) (h1 : (i 1).val = (y 1).val) :
    fuseAOut W i = fuseA (blk2 W 1 t) (blk2 W 2 t) (blk2 W 3 t) (blk2 W 4 t) (blk2 W 5 t) (blk2 W 6 t) (blk2 W 7 t) (blk2 W 8 t) y := by
  have key : ∀ (t' : Fin cfg2.N) (y' : S128x128.Idx), t' = t → y' = y → (let t := t'; fuseA (blk2 W 1 t) (blk2 W 2 t) (blk2 W 3 t) (blk2 W 4 t) (blk2 W 5 t) (blk2 W 6 t) (blk2 W 7 t) (blk2 W 8 t) y') = fuseA (blk2 W 1 t) (blk2 W 2 t) (blk2 W 3 t) (blk2 W 4 t) (blk2 W 5 t) (blk2 W 6 t) (blk2 W 7 t) (blk2 W 8 t) y := by
    rintro _ _ rfl rfl; rfl
  have hy := (y 0).isLt
  change (y 0).val < 128 at hy
  refine key _ _ (Fin.ext ?_) (Shape.idx_ext₂ ?_ ?_)
  · show (i 0).val / 128 = t.val; omega
  · show (i 0).val % 128 = (y 0).val; omega
  · exact h1

theorem fusePOut_block (W : Valuation τ sig (Elt F)) (t : Fin cfg2.N) (y : S8192x128.Idx) (i : S131072x128.Idx)
    (h0 : (i 0).val = t.val * 8192 + (y 0).val) (h1 : (i 1).val = (y 1).val) :
    fusePOut W i = fuseP (blk2 W 0 t) (blk2 W 1 t) (blk2 W 2 t) (blk2 W 3 t) (blk2 W 4 t) (blk2 W 6 t) (blk2 W 7 t) (blk2 W 8 t) y := by
  have key : ∀ (t' : Fin cfg2.N) (y' : S8192x128.Idx), t' = t → y' = y → (let t := t'; fuseP (blk2 W 0 t) (blk2 W 1 t) (blk2 W 2 t) (blk2 W 3 t) (blk2 W 4 t) (blk2 W 6 t) (blk2 W 7 t) (blk2 W 8 t) y') = fuseP (blk2 W 0 t) (blk2 W 1 t) (blk2 W 2 t) (blk2 W 3 t) (blk2 W 4 t) (blk2 W 6 t) (blk2 W 7 t) (blk2 W 8 t) y := by
    rintro _ _ rfl rfl; rfl
  have hy := (y 0).isLt
  change (y 0).val < 8192 at hy
  refine key _ _ (Fin.ext ?_) (Shape.idx_ext₂ ?_ ?_)
  · show (i 0).val / 8192 = t.val; omega
  · show (i 0).val % 8192 = (y 0).val; omega
  · exact h1

/-- The atom features' array at the call's end. -/
theorem fuse_arr9 (c : Dev nD) : (fuseDat n W c).arrAt 9 cfg2.N = fuseAOut (W c) := by
  refine (fuseDat n W c).arrAt_eq_of_cover 9 (fuseAOut (W c)) (fun t _ => ?_) fun i => ?_
  · refine funext fun y => ?_
    have h := emb2_9 t y
    exact (fuseAOut_block (W c) t y _ h.1 (h.2.trans (by omega))).symm
  · have h : (i 0).val / 128 < 16 := Nat.div_lt_of_lt_mul (i 0).isLt
    refine ⟨ptOf _ h, flush2_9 _, Finset.mem_map.mpr ⟨ix2 ⟨(i 0).val % 128, Nat.mod_lt _ (by decide)⟩ (i 1), Finset.mem_univ _, ?_⟩⟩
    have h := emb2_9 (ptOf _ h) (ix2 ⟨(i 0).val % 128, Nat.mod_lt _ (by decide)⟩ (i 1))
    refine Shape.idx_ext₂ (h.1.trans ?_) (h.2.trans ?_)
    · show (i 0).val / 128 * 128 + (i 0).val % 128 = _; omega
    · show 0 * 128 + (i 1).val = _; omega

/-- The pair features' array at the call's end. -/
theorem fuse_arr10 (c : Dev nD) : (fuseDat n W c).arrAt 10 cfg2.N = fusePOut (W c) := by
  refine (fuseDat n W c).arrAt_eq_of_cover 10 (fusePOut (W c)) (fun t _ => ?_) fun i => ?_
  · refine funext fun y => ?_
    have h := emb2_10 t y
    exact (fusePOut_block (W c) t y _ h.1 (h.2.trans (by omega))).symm
  · have h : (i 0).val / 8192 < 16 := Nat.div_lt_of_lt_mul (i 0).isLt
    refine ⟨ptOf _ h, flush2_10 _, Finset.mem_map.mpr ⟨ix2 ⟨(i 0).val % 8192, Nat.mod_lt _ (by decide)⟩ (i 1), Finset.mem_univ _, ?_⟩⟩
    have h := emb2_10 (ptOf _ h) (ix2 ⟨(i 0).val % 8192, Nat.mod_lt _ (by decide)⟩ (i 1))
    refine Shape.idx_ext₂ (h.1.trans ?_) (h.2.trans ?_)
    · show (i 0).val / 8192 * 8192 + (i 0).val % 8192 = _; omega
    · show 0 * 128 + (i 1).val = _; omega

end Cert.KernelIdeal.Run

end
-- ==== Proof.KI.Vals.lean ====
/-
  What every buffer of @main holds along it, and the regions of its two TensorCore calls.
-/
module

public import proofs.«01_k».proof.Proof.KI.Mlp
public import proofs.«01_k».proof.Proof.KI.FuseRegion
public import proofs.«01_k».proof.Proof.KI.Region
public import Idealize.ShloMosaic.Lib.StableHlo.Run

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

/-! ## What the buffers hold along @main -/

/-- The host operations before the first call. -/
abbrev ops1 : List (HloOp τ sig (Elt F)) :=
  [StableHlo.reshape main_arg0 main_v0 (rfl : (.f32 : EltTy) = .f32) shapeCasts_S4x512x128_S2048x128,
   StableHlo.reshape main_arg9 main_v1 (rfl : (.f32 : EltTy) = .f32) shapeCasts_S128_S1x128,
   StableHlo.reshape main_arg11 main_v2 (rfl : (.f32 : EltTy) = .f32) shapeCasts_S128_S1x128]
/-- Those between the first call and the gather. -/
abbrev ops2 : List (HloOp τ sig (Elt F)) :=
  [StableHlo.unary main_arg3 main_v4 ((transpose S4x64x512 [0, 2, 1] · transposes_S4x512x64_S4x64x512_0_2_1) : (⟨S4x512x64, .f32⟩ : BufTy).Contents (Elt F) → (⟨S4x64x512, .f32⟩ : BufTy).Contents (Elt F)),
   StableHlo.unary main_arg5 main_v5 ((transpose S4x64x512 [0, 2, 1] · transposes_S4x512x64_S4x64x512_0_2_1) : (⟨S4x512x64, .f32⟩ : BufTy).Contents (Elt F) → (⟨S4x64x512, .f32⟩ : BufTy).Contents (Elt F)),
   StableHlo.unary main_arg6 main_v6 ((transpose S20x128 [1, 0] · transposes_S128x20_S20x128_1_0) : (⟨S128x20, .f32⟩ : BufTy).Contents (Elt F) → (⟨S20x128, .f32⟩ : BufTy).Contents (Elt F)),
   StableHlo.reshape main_arg4 main_v7 (rfl : (.i32 : EltTy) = .i32) shapeCasts_S4x512x64_S131072]
/-- Those between the gather and the last call. -/
abbrev ops3 : List (HloOp τ sig (Elt F)) :=
  [StableHlo.reshape main_arg1 main_v9 (rfl : (.f32 : EltTy) = .f32) shapeCasts_S4x512x64x128_S131072x128,
   StableHlo.unary main_arg2 main_v10 ((transpose S4x64x20x512 [0, 2, 3, 1] · transposes_S4x512x64x20_S4x64x20x512_0_2_3_1) : (⟨S4x512x64x20, .f32⟩ : BufTy).Contents (Elt F) → (⟨S4x64x20x512, .f32⟩ : BufTy).Contents (Elt F)),
   StableHlo.reshape main_arg7 main_v11 (rfl : (.f32 : EltTy) = .f32) shapeCasts_S128_S1x128]
/-- Those after the last call. -/
abbrev ops4 : List (HloOp τ sig (Elt F)) :=
  [StableHlo.reshape main_v12_0 main_v13 (rfl : (.f32 : EltTy) = .f32) shapeCasts_S2048x128_S4x512x128,
   StableHlo.reshape main_v12_1 main_v14 (rfl : (.f32 : EltTy) = .f32) shapeCasts_S131072x128_S4x512x64x128]

/-- A TensorCore reference as a device buffer. -/
abbrev dr (b : Ref sig .tc) : DevRef τ sig := Proc.devRef (τ := τ) .tc b

variable (m : (ℓ : Loc nD τ sig) → Buf (Elt F) ℓ)

/-- Before and after the first call. -/
def A1 (d : Dev nD) : Valuation τ sig (Elt F) := StableHlo.after ops1 (StableHlo.launchContents m d)
def B1 (d : Dev nD) : Valuation τ sig (Elt F) := Function.update (A1 m d) (dr main_v3) (mlpOut (A1 m d))
/-- Before and after the gather. -/
def A2 (d : Dev nD) : Valuation τ sig (Elt F) := StableHlo.after ops2 (B1 m d)
def B2 (d : Dev nD) : Valuation τ sig (Elt F) := Function.update (A2 m d) (dr main_v8) (gathered (A2 m d main_v3) (A2 m d main_v7))
/-- Before and after the last call. -/
def A3 (d : Dev nD) : Valuation τ sig (Elt F) := StableHlo.after ops3 (B2 m d)
def B3 (d : Dev nD) : Valuation τ sig (Elt F) :=
  Function.update (Function.update (A3 m d) (dr main_v12_0) (fuseAOut (A3 m d))) (dr main_v12_1) (fusePOut (A3 m d))
/-- At the end. -/
def A4 (d : Dev nD) : Valuation τ sig (Elt F) := StableHlo.after ops4 (B3 m d)

omit [FloatOps F] [Named F] in
theorem dr_ne {a b : Ref sig .tc} (h : a ≠ b) : dr a ≠ dr b := fun e => h (Proc.devRef_injective _ e)

/-! ## What each call changes -/

theorem B1_self (d : Dev nD) : B1 m d main_v3 = mlpOut (A1 m d) := Function.update_self (dr main_v3) _ _
theorem B1_ne (d : Dev nD) (b : Ref sig .tc) (h : b ≠ main_v3) : B1 m d b = A1 m d b := Function.update_of_ne (dr_ne h) _ _
theorem B2_self (d : Dev nD) : B2 m d main_v8 = gathered (A2 m d main_v3) (A2 m d main_v7) := Function.update_self (dr main_v8) _ _
theorem B2_ne (d : Dev nD) (b : Ref sig .tc) (h : b ≠ main_v8) : B2 m d b = A2 m d b := Function.update_of_ne (dr_ne h) _ _
theorem B3_0 (d : Dev nD) : B3 m d main_v12_0 = fuseAOut (A3 m d) :=
  (Function.update_of_ne (dr_ne (by decide : main_v12_0 ≠ main_v12_1)) _ _).trans (Function.update_self (dr main_v12_0) _ _)
theorem B3_1 (d : Dev nD) : B3 m d main_v12_1 = fusePOut (A3 m d) := Function.update_self (dr main_v12_1) _ _
theorem B3_ne (d : Dev nD) (b : Ref sig .tc) (h : b ≠ main_v12_0) (h' : b ≠ main_v12_1) : B3 m d b = A3 m d b :=
  (Function.update_of_ne (dr_ne h') _ _).trans (Function.update_of_ne (dr_ne h) _ _)

/-! ## The two TensorCore calls' regions -/

/-- The two pipelines' proof data. -/
def pd (p : Fin 2) (c : Dev nD) : Dat τ (Elt F) (HIx 1) ℕ UU ℕ (Pipeline.pin (pcfgs (F := F)) adm p) c :=
  match p with
  | ⟨0, _⟩ => mlpDat 0 (A1 m) c
  | ⟨1, _⟩ => fuseDat 1 (A3 m) c

/-- The first call's region. -/
def region1 := regionOf 0 (pd m) (A1 m) (B1 m) 0 launch0 (fun _ _ => rfl) (fun _ _ => rfl) (fun _ _ => rfl) (fun _ _ => rfl) (fun _ _ => rfl)
  (fun c w => by
    show (mlpDat 0 (A1 m) c).arrAt w cfg0.N = _
    match w with
    | ⟨0, _⟩ => exact ((mlpDat 0 (A1 m) c).arrAt_in 0 rfl _).trans (B1_ne m c main_v0 (by decide)).symm
    | ⟨1, _⟩ => exact ((mlpDat 0 (A1 m) c).arrAt_in 1 rfl _).trans (B1_ne m c main_arg8 (by decide)).symm
    | ⟨2, _⟩ => exact ((mlpDat 0 (A1 m) c).arrAt_in 2 rfl _).trans (B1_ne m c main_v1 (by decide)).symm
    | ⟨3, _⟩ => exact ((mlpDat 0 (A1 m) c).arrAt_in 3 rfl _).trans (B1_ne m c main_arg10 (by decide)).symm
    | ⟨4, _⟩ => exact ((mlpDat 0 (A1 m) c).arrAt_in 4 rfl _).trans (B1_ne m c main_v2 (by decide)).symm
    | ⟨5, _⟩ => exact (mlp_arr 0 (A1 m) c).trans (B1_self m c).symm)
  (fun c b hb => B1_ne m c b fun e => hb (Finset.mem_image.mpr ⟨5, Finset.mem_univ _, e.symm⟩))
  (fun c => mlp_obligation 0 (A1 m) c)

theorem fuse_out (c : Dev nD) : ∀ w : Fin 11, (fuseDat 1 (A3 m) c).arrAt w cfg2.N = B3 m c (Pipeline.arrRef spec2 w)
  | 0 => ((fuseDat 1 (A3 m) c).arrAt_in 0 rfl _).trans (B3_ne m c main_v9 (by decide) (by decide)).symm
  | 1 => ((fuseDat 1 (A3 m) c).arrAt_in 1 rfl _).trans (B3_ne m c main_v8 (by decide) (by decide)).symm
  | 2 => ((fuseDat 1 (A3 m) c).arrAt_in 2 rfl _).trans (B3_ne m c main_v10 (by decide) (by decide)).symm
  | 3 => ((fuseDat 1 (A3 m) c).arrAt_in 3 rfl _).trans (B3_ne m c main_v4 (by decide) (by decide)).symm
  | 4 => ((fuseDat 1 (A3 m) c).arrAt_in 4 rfl _).trans (B3_ne m c main_v5 (by decide) (by decide)).symm
  | 5 => ((fuseDat 1 (A3 m) c).arrAt_in 5 rfl _).trans (B3_ne m c main_v0 (by decide) (by decide)).symm
  | 6 => ((fuseDat 1 (A3 m) c).arrAt_in 6 rfl _).trans (B3_ne m c main_v3 (by decide) (by decide)).symm
  | 7 => ((fuseDat 1 (A3 m) c).arrAt_in 7 rfl _).trans (B3_ne m c main_v6 (by decide) (by decide)).symm
  | 8 => ((fuseDat 1 (A3 m) c).arrAt_in 8 rfl _).trans (B3_ne m c main_v11 (by decide) (by decide)).symm
  | 9 => (fuse_arr9 1 (A3 m) c).trans (B3_0 m c).symm
  | 10 => (fuse_arr10 1 (A3 m) c).trans (B3_1 m c).symm

theorem fuse_kept (c : Dev nD) (b : Ref sig .tc) (hb : b ∉ Finset.univ.image (Pipeline.arrRef spec2)) : B3 m c b = A3 m c b :=
  B3_ne m c b (fun e => hb (Finset.mem_image.mpr ⟨9, Finset.mem_univ _, e.symm⟩))
    fun e => hb (Finset.mem_image.mpr ⟨10, Finset.mem_univ _, e.symm⟩)

/-- The last call's region. -/
def region3 := regionOf 1 (pd m) (A3 m) (B3 m) 1 launch2 (fun _ _ => rfl) (fun _ _ => rfl) (fun _ _ => rfl) (fun _ _ => rfl) (fun _ _ => rfl)
  (fuse_out m) (fuse_kept m) (fun c => fuse_obligation 1 (A3 m) c)

end Cert.KernelIdeal.Run

end
-- ==== Proof.KI.Tile.lean ====
/-
  One vector subcore's task of the SparseCore call.
-/
module

public import proofs.«01_k».proof.Proof.KI.Common

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

local notation "tV" => (Memref.whole Cert.KernelIdeal.main_v3_scv : Memref Cert.KernelIdeal.sig Kind.scVector Space.hbm Cert.KernelIdeal.S2048x128 EltTy.f32)
local notation "iV" => (Memref.whole Cert.KernelIdeal.main_v7_scv : Memref Cert.KernelIdeal.sig Kind.scVector Space.hbm Cert.KernelIdeal.S131072 EltTy.i32)
local notation "oV" => (Memref.whole Cert.KernelIdeal.main_v8_scv : Memref Cert.KernelIdeal.sig Kind.scVector Space.hbm Cert.KernelIdeal.S131072x128 EltTy.f32)
local notation "l0" => (Memref.whole Cert.KernelIdeal.cc1_scratch0 : Memref Cert.KernelIdeal.sig Kind.scVector Space.vmem Cert.KernelIdeal.S128 EltTy.i32)
local notation "l1" => (Memref.whole Cert.KernelIdeal.cc1_scratch1 : Memref Cert.KernelIdeal.sig Kind.scVector Space.vmem Cert.KernelIdeal.S128 EltTy.i32)
local notation "r0" => (Memref.whole Cert.KernelIdeal.cc1_scratch2 : Memref Cert.KernelIdeal.sig Kind.scVector Space.vmem Cert.KernelIdeal.S128x128 EltTy.f32)
local notation "r1" => (Memref.whole Cert.KernelIdeal.cc1_scratch3 : Memref Cert.KernelIdeal.sig Kind.scVector Space.vmem Cert.KernelIdeal.S128x128 EltTy.f32)

variable (d : Dev nD) (L : grid1.Coords)

abbrev cV (L : grid1.Coords) : Fin τ.nSC := (L 0).castLE hcore1
abbrev jV (L : grid1.Coords) : Fin τ.nSub := (L 1).castLE hsub1
/-- The thread of tile `L`. -/
abbrev thr (d : Dev nD) (L : grid1.Coords) : Thread nD τ := V d (cV L) (jV L)

/-- The number of tile `L` among the thirty-two: its first row is `4096` times it. -/
def tileNo (L : grid1.Coords) : ℕ := 2 * (L 1).val + (L 0).val

variable (tab : S2048x128.Idx → Elt F .f32) (ids : S131072.Idx → BitVec 32) (o₀ : S131072x128.Idx → Elt F .f32)

/-- Chunk `k`'s row numbers as the tile lists them: the batch's first row added to each. -/
def rowList (k : ℕ) : S128.Idx → BitVec 32 := fun j =>
  ids (idNo (4096 * tileNo L + 128 * k + (j 0).val)) + BitVec.ofNat 32 (512 * (tileNo L / 8))

/-- Chunk `k`'s rows. -/
def rowsOf (k : ℕ) : S128x128.Idx → Elt F .f32 := fun x =>
  gathered tab ids (fun a => match a with | ⟨0, _⟩ => ⟨(4096 * tileNo L + 128 * k + (x 0).val) % 131072, Nat.mod_lt _ (by decide)⟩ | ⟨1, _⟩ => x 1)

/-- The result after the first `k` chunks of tile `L`. -/
def outAfter (k : ℕ) : S131072x128.Idx → Elt F .f32 := fun x =>
  if (x 0).val < 4096 * tileNo L + 128 * k then gathered tab ids x else o₀ x

/-- Tile `L`'s rows of the result. -/
def block (L : grid1.Coords) : Finset (S131072x128.Idx) := Finset.univ.filter fun x => 4096 * tileNo L ≤ (x 0).val ∧ (x 0).val < 4096 * tileNo L + 4096

abbrev tAll : Memref sig .scVector .hbm S2048x128 .f32 := (tV).slice (Rect.unit (s := S2048x128) ![0, 0] S2048x128.size inb_S2048x128_S2048x128_0_0) (fun _ => rfl)

/-! ## A slot: a list of row numbers, a buffer of rows, a semaphore -/

variable (q : PosShare TreeShare)

/-- The table's share as a gather takes it. -/
abbrev tPts : sProp 𝕄 := (tAll).view.loc (thr d L) ↦[(tAll).view.set]{q} tab

/-- Chunk `k`'s gather in flight in the slot of list `l`, rows `r` and semaphore `sem`. -/
def busy (l : Memref sig .scVector .vmem S128 .i32) (r : Memref sig .scVector .vmem S128x128 .f32) (sem : DmaSem sig) (k : ℕ) : sProp 𝕄 :=
  iprop(∃ fd fo, Transfers.Flight countersEmb (thr d L) (.dma sem) (default : HIx 1) r.view.dmaCredit
    iprop((r.view.loc (thr d L) ↦[r.view.set]{fullShare} r.view.write (Elt F) fd (rowsOf L tab ids k) Finset.univ)
      ∗ tPts d L tab q ∗ (l.view.loc (thr d L) ↦[l.view.set]{fullShare} fo)))

/-- A slot with nothing in flight. -/
def free (l : Memref sig .scVector .vmem S128 .i32) (r : Memref sig .scVector .vmem S128x128 .f32) (sem : DmaSem sig) : sProp 𝕄 :=
  iprop((∃ fd, r.view.loc (thr d L) ↦[r.view.set]{fullShare} fd) ∗ (∃ fo, l.view.loc (thr d L) ↦[l.view.set]{fullShare} fo)
    ∗ tPts d L tab q ∗ semVal (thr d L, SemLoc.dma sem) 0)

theorem tileNo_lt : tileNo L < 32 := by
  have h0 : (L 0).val < 2 := (L 0).isLt
  have h1 : (L 1).val < 16 := (L 1).isLt
  unfold tileNo; omega

/-- A chunk's row numbers are rows of the table. -/
theorem rowList_lt (hids : ∀ x, (ids x).toNat < 512) (k : ℕ) (x : S128.Idx) : (rowList L ids k x).toNat < 2048 := by
  have hw := tileNo_lt L
  have h := hids (idNo (4096 * tileNo L + 128 * k + (x 0).val))
  unfold rowList
  rw [BitVec.toNat_add, BitVec.toNat_ofNat, Nat.mod_eq_of_lt (a := 512 * (tileNo L / 8)) (by omega), Nat.mod_eq_of_lt (by omega)]
  omega

/-- The rows a chunk's list names are the chunk's rows of the result. -/
theorem payload_eq (hids : ∀ x, (ids x).toNat < 512) (k : ℕ) (hk : k < 32) (g : S128.Idx → Elt F .i32) (hg : g = rowList L ids k)
    (hin : ∀ x, (g x).toNat < S2048x128.size gathers_S2048x128_S128x128.axis) :
    SparseCore.gatherPayload gathers_S2048x128_S128x128 ((tAll).view.read (Elt F) tab) (SparseCore.rows g rfl hin) = rowsOf L tab ids k := by
  subst hg
  have hw := tileNo_lt L
  funext x
  show tab _ = tab _
  refine congrArg tab (funext fun a => Fin.ext ?_)
  match a with
  | ⟨0, _⟩ =>
    have e0 := congrArg Fin.val (Shape.Gathers.idx_axis gathers_S2048x128_S128x128 (SparseCore.rows (F := F) (rowList L ids k) rfl hin) x)
    refine (show _ = 0 + 1 * (gathers_S2048x128_S128x128.idx (SparseCore.rows (F := F) (rowList L ids k) rfl hin) x (Shape.Gathers.axis gathers_S2048x128_S128x128)).val from rfl).trans ?_
    rw [e0]
    have hx : (x 0).val < 128 := (x 0).isLt
    generalize hz : S128.rowMajor.symm ((x (Shape.Gathers.axis' gathers_S2048x128_S128x128)).cast (Eq.symm rfl)) = z
    have hz0 : (z 0).val = (x 0).val := by
      rw [← Shape.rowMajor_val_one z, ← hz, Equiv.apply_symm_apply]; rfl
    show 0 + 1 * (rowList L ids k (S128.rowMajor.symm ((x (Shape.Gathers.axis' gathers_S2048x128_S128x128)).cast (Eq.symm rfl)))).toNat = _
    rw [hz]
    show _ = ((ids (idNo ((4096 * tileNo L + 128 * k + (x 0).val) % 131072))).toNat + 512 * (((4096 * tileNo L + 128 * k + (x 0).val) % 131072) / 32768)) % 2048
    rw [Nat.mod_eq_of_lt (a := 4096 * tileNo L + 128 * k + (x 0).val) (by omega)]
    have hl := hids (idNo (4096 * tileNo L + 128 * k + (x 0).val))
    unfold rowList
    rw [hz0, BitVec.toNat_add, BitVec.toNat_ofNat, Nat.mod_eq_of_lt (a := 512 * (tileNo L / 8)) (by omega), Nat.mod_eq_of_lt (by omega)]
    omega
  | ⟨1, _⟩ =>
    refine (show _ = 0 + 1 * (gathers_S2048x128_S128x128.idx (SparseCore.rows (F := F) (rowList L ids k) rfl hin) x ⟨1, by decide⟩).val from rfl).trans ?_
    rw [Shape.Gathers.idx_of_ne gathers_S2048x128_S128x128 _ x ⟨1, by decide⟩ (by decide)]
    show 0 + 1 * (x 1).val = (x 1).val
    omega

variable (defs' : Defs nD τ sig (Elt F) Λ₀)

theorem wp_gather (hids : ∀ x, (ids x).toNat < 512) (k : ℕ) (hk : k < 32)
    (l : Memref sig .scVector .vmem S128 .i32) (r : Memref sig .scVector .vmem S128x128 .f32) (sem : DmaSem sig)
    (hr : ∑ j, (r.slice (S128x128.rowRect gathers_S2048x128_S128x128.axis' j) (S128x128.stride_rowRect gathers_S2048x128_S128x128.axis' j)).view.dmaCredit = r.view.dmaCredit)
    {α : Type} (kk : PUnit → Prog (TpuEff nD τ sig (Elt F) Λ₀ (thr d L).2) α) (Q : α → sProp 𝕄) (h1 h2 h3 h4 h5) :
    iprop(tPts d L tab q ∗ (∃ fd, r.view.loc (thr d L) ↦[r.view.set]{fullShare} fd)
        ∗ (∃ fo, (l.view.loc (thr d L) ↦[l.view.set]{fullShare} fo) ∗ ⌜l.view.read (Elt F) fo = rowList L ids k⌝)
        ∗ semVal (thr d L, SemLoc.dma sem) 0)
      ⊢ iprop((busy d L tab ids q l r sem k -∗ wp frame (wpE defs' 𝒱₀ (thr d L) none) Set.univ (kk ⟨⟩) Q)
        -∗ wp frame (wpE defs' 𝒱₀ (thr d L) none) Set.univ
            (SparseCore.enqueueIndirectGather h1 (tAll) r gathers_S2048x128_S128x128 l rfl sem h2 h3 h4 h5 >>= kk) Q) := by
  iintro ⟨Ht, ⟨%fd, Hr⟩, ⟨%fo, Hl, %hfo⟩, Hs⟩ Hk
  have hin : ∀ x, (l.view.read (Elt F) fo x).toNat < S2048x128.size gathers_S2048x128_S128x128.axis := fun x => by
    rw [hfo]; exact rowList_lt L ids hids k x
  iapply (SparseCore.wp_indirectGatherLocal countersEmb 𝒱₀ (thr d L) none (hg := gathers_S2048x128_S128x128) (default : HIx 1)
      r.view.dmaCredit hr (by decide) hin) $$ [Ht Hr Hl Hs]
  · isplitl [Ht]; · iexact Ht
    isplitl [Hr]; · iexact Hr
    isplitl [Hl]; · iexact Hl
    iexact Hs
  iintro Hfl
  iapply Hk
  unfold busy
  iexists fd; iexists fo
  rw [payload_eq L tab ids hids k hk _ hfo hin]
  iexact Hfl

theorem wp_landed (k : ℕ)
    (l : Memref sig .scVector .vmem S128 .i32) (r : Memref sig .scVector .vmem S128x128 .f32) (sem : DmaSem sig)
    (O : CellTallies nD τ sig (HIx 1)) (W : Waits sig (HIx 1))
    {α : Type} (kk : PUnit → Prog (TpuEff nD τ sig (Elt F) Λ₀ (thr d L).2) α) (Q : α → sProp 𝕄) (h1 h2) :
    iprop(Transfers.MayWaits (thr d L) (default : HIx 1) O ∗ busy d L tab ids q l r sem k ∗ owes (thr d L) O W)
      ⊢ iprop((iprop(Transfers.MayWaits (thr d L) (default : HIx 1) O
              ∗ (∃ fd, r.view.loc (thr d L) ↦[r.view.set]{fullShare} r.view.write (Elt F) fd (rowsOf L tab ids k) Finset.univ)
              ∗ (∃ fo, l.view.loc (thr d L) ↦[l.view.set]{fullShare} fo) ∗ tPts d L tab q
              ∗ semVal (thr d L, SemLoc.dma sem) 0 ∗ owes (thr d L) O (insert (SemLoc.dma sem, (default : HIx 1)) W))
            -∗ wp frame (wpE defs' 𝒱₀ (thr d L) none) Set.univ (kk ⟨⟩) Q)
        -∗ wp frame (wpE defs' 𝒱₀ (thr d L) none) Set.univ
            (.op (.waitDma2 sem (tAll) r h1 h2) kk) Q) := by
  unfold busy
  iintro ⟨#Hmw, ⟨%fd, %fo, Hfl⟩, HO⟩ Hk
  iapply (Transfers.wp_waitLocalO countersEmb 𝒱₀ (thr d L) none (default : HIx 1) (rfl : r.view.dmaCredit = _)) $$ [Hfl HO]
  · isplitl [Hfl]; · iexact Hfl
    isplitl [HO]; · iexact HO
    iapply (Transfers.MayWaits.elim (SemLoc.dma sem)) $$ Hmw
  iintro ⟨⟨Hr, Ht, Hl⟩, Hs, HO⟩
  iapply Hk
  isplitr; · iexact Hmw
  isplitl [Hr]; · iexists fd; iexact Hr
  isplitl [Hl]; · iexists fo; iexact Hl
  isplitl [Ht]; · iexact Ht
  isplitl [Hs]; · iexact Hs
  iexact HO

end Cert.KernelIdeal.Run

end
-- ==== Proof.KI.Trip.lean ====
/-
  One chunk of a vector subcore's task: the landing of its rows and their copy out, the list of row numbers of the
  next chunk, and the trip of the loop that does both.
-/
module

public import proofs.«01_k».proof.Proof.KI.Tile
public import Idealize.ShloMosaic.Lib.Pipeline.Value

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

local notation "tV" => (Memref.whole Cert.KernelIdeal.main_v3_scv : Memref Cert.KernelIdeal.sig Kind.scVector Space.hbm Cert.KernelIdeal.S2048x128 EltTy.f32)
local notation "iV" => (Memref.whole Cert.KernelIdeal.main_v7_scv : Memref Cert.KernelIdeal.sig Kind.scVector Space.hbm Cert.KernelIdeal.S131072 EltTy.i32)
local notation "oV" => (Memref.whole Cert.KernelIdeal.main_v8_scv : Memref Cert.KernelIdeal.sig Kind.scVector Space.hbm Cert.KernelIdeal.S131072x128 EltTy.f32)
local notation "l0" => (Memref.whole Cert.KernelIdeal.cc1_scratch0 : Memref Cert.KernelIdeal.sig Kind.scVector Space.vmem Cert.KernelIdeal.S128 EltTy.i32)
local notation "l1" => (Memref.whole Cert.KernelIdeal.cc1_scratch1 : Memref Cert.KernelIdeal.sig Kind.scVector Space.vmem Cert.KernelIdeal.S128 EltTy.i32)
local notation "r0" => (Memref.whole Cert.KernelIdeal.cc1_scratch2 : Memref Cert.KernelIdeal.sig Kind.scVector Space.vmem Cert.KernelIdeal.S128x128 EltTy.f32)
local notation "r1" => (Memref.whole Cert.KernelIdeal.cc1_scratch3 : Memref Cert.KernelIdeal.sig Kind.scVector Space.vmem Cert.KernelIdeal.S128x128 EltTy.f32)

variable (d : Dev nD) (L : grid1.Coords)
variable (tab : S2048x128.Idx → Elt F .f32) (ids : S131072.Idx → BitVec 32) (o₀ : S131072x128.Idx → Elt F .f32)
variable (q : PosShare TreeShare) (defs' : Defs nD τ sig (Elt F) Λ₀)

/-! ## The rows of a chunk in the result -/

/-- The rectangle of the result a chunk is copied to. -/
abbrev oRect (off : Fin 2 → ℕ) (inb : ∀ a, off a + S128x128.size a ≤ S131072x128.size a) : Memref sig .scVector .hbm S128x128 .f32 :=
  (oV).slice (Rect.unit (s := S131072x128) off S128x128.size inb) (fun _ => rfl)

theorem mem_oRect (k : ℕ) (off : Fin 2 → ℕ) (inb : ∀ a, off a + S128x128.size a ≤ S131072x128.size a) (hoff : off = ![4096 * tileNo L + 128 * k, 0])
    (x : S131072x128.Idx) : x ∈ (oRect off inb).view.set ↔ 4096 * tileNo L + 128 * k ≤ (x 0).val ∧ (x 0).val < 4096 * tileNo L + 128 * k + 128 := by
  subst hoff
  rw [show (oRect (![4096 * tileNo L + 128 * k, 0]) inb).view.set = (Rect.unit (s := S131072x128) ![4096 * tileNo L + 128 * k, 0] S128x128.size inb).set from View.set_slice_whole _ _, Rect.mem_set_unit]
  have hx : (x 1).val < 128 := (x 1).isLt
  constructor
  · intro h; exact h 0
  · intro h a
    match a with
    | ⟨0, _⟩ => exact h
    | ⟨1, _⟩ => exact ⟨Nat.zero_le _, by show (x 1).val < 0 + 128; omega⟩

theorem oRect_sub (k : ℕ) (hk : k < 32) (off : Fin 2 → ℕ) (inb : ∀ a, off a + S128x128.size a ≤ S131072x128.size a) (hoff : off = ![4096 * tileNo L + 128 * k, 0]) :
    (oRect off inb).view.set ⊆ block L := fun x hx => by
  have h := (mem_oRect L k off inb hoff x).mp hx
  exact Finset.mem_filter.mpr ⟨Finset.mem_univ _, by omega, by omega⟩

/-- A result whose chunk reads the chunk's rows is, on the chunk, the result after `k + 1` chunks. -/
theorem write_out (k : ℕ) (hk : k < 32) (off : Fin 2 → ℕ) (inb : ∀ a, off a + S128x128.size a ≤ S131072x128.size a) (hoff : off = ![4096 * tileNo L + 128 * k, 0])
    (f : S131072x128.Idx → Elt F .f32) (hf : (oRect off inb).view.read (Elt F) f = rowsOf L tab ids k)
    (x : S131072x128.Idx) (hx : x ∈ (oRect off inb).view.set) :
    f x = outAfter L tab ids o₀ (k + 1) x := by
  have hb := (mem_oRect L k off inb hoff x).mp hx
  have hw := tileNo_lt L
  subst hoff
  obtain ⟨y, rfl⟩ : ∃ y, (oRect (![4096 * tileNo L + 128 * k, 0]) inb).view.emb y = x := by
    rw [View.set] at hx
    obtain ⟨y, -, hy⟩ := Finset.mem_map.mp hx
    exact ⟨y, hy⟩
  refine (congrFun hf y).trans ?_
  unfold outAfter
  rw [if_pos (by omega)]
  unfold rowsOf
  refine congrArg (gathered tab ids) (funext fun a => Fin.ext ?_)
  have hy0 : (y 0).val < 128 := (y 0).isLt
  match a with
  | ⟨0, _⟩ =>
    show (4096 * tileNo L + 128 * k + (y 0).val) % 131072 = 4096 * tileNo L + 128 * k + 1 * (y 0).val
    rw [Nat.mod_eq_of_lt (by omega)]; omega
  | ⟨1, _⟩ =>
    show (y 1).val = 0 + 1 * (y 1).val
    omega

theorem out_rest (k : ℕ) (off : Fin 2 → ℕ) (inb : ∀ a, off a + S128x128.size a ≤ S131072x128.size a) (hoff : off = ![4096 * tileNo L + 128 * k, 0])
    (x : S131072x128.Idx) (hx : x ∈ block L \ (oRect off inb).view.set) : outAfter L tab ids o₀ k x = outAfter L tab ids o₀ (k + 1) x := by
  obtain ⟨-, hn⟩ := Finset.mem_sdiff.mp hx
  rw [mem_oRect L k off inb hoff] at hn
  unfold outAfter
  by_cases h : (x 0).val < 4096 * tileNo L + 128 * k
  · rw [if_pos h, if_pos (by omega)]
  · rw [if_neg h, if_neg (by omega)]

/-- The chunk's rectangle taken out of the tile's rows; given back reading the chunk's rows, one chunk more is done. -/
theorem out_open (k : ℕ) (hk : k < 32) (off : Fin 2 → ℕ) (inb : ∀ a, off a + S128x128.size a ≤ S131072x128.size a) (hoff : off = ![4096 * tileNo L + 128 * k, 0]) :
    (((oV).view.loc (thr d L) ↦[block L]{fullShare} outAfter L tab ids o₀ k) : sProp 𝕄)
      ⊢ iprop(((oRect off inb).view.loc (thr d L) ↦[(oRect off inb).view.set]{fullShare} outAfter L tab ids o₀ k)
        ∗ ((∃ f, ((oRect off inb).view.loc (thr d L) ↦[(oRect off inb).view.set]{fullShare} f) ∗ ⌜(oRect off inb).view.read (Elt F) f = rowsOf L tab ids k⌝)
          -∗ ((oV).view.loc (thr d L) ↦[block L]{fullShare} outAfter L tab ids o₀ (k + 1)))) := by
  iintro Ho
  ihave Ho' := ((pointsTo_split_subset (q := fullShare) (f := outAfter L tab ids o₀ k) (ℓ := (oV).view.loc (thr d L)) (oRect_sub L k hk off inb hoff)).1) $$ Ho
  icases Ho' with ⟨Ho1, Ho2⟩
  isplitl [Ho1]; · iexact Ho1
  iintro ⟨%f, Ho1, %hf⟩
  iapply ((pointsTo_split_subset (q := fullShare) (f := outAfter L tab ids o₀ (k + 1)) (ℓ := (oV).view.loc (thr d L)) (oRect_sub L k hk off inb hoff)).2)
  isplitl [Ho1]
  · iapply (Entails.of_eq (pointsTo_congr (write_out L tab ids o₀ k hk off inb hoff f hf)))
    iexact Ho1
  · iapply (Entails.of_eq (pointsTo_congr (out_rest L tab ids o₀ k off inb hoff)))
    iexact Ho2

/-! ## The list of row numbers

A tile copies a chunk's indices into its list and adds the batch's first row to them, sixteen at a time. -/

/-- After `n` of the eight additions of `c` to the indices `w`: the first `16 * n` are raised, whatever the list held before. -/
def Raised (c : BitVec 32) (w : S128.Idx → BitVec 32) (n : ℕ) (Ps : List (View.Piece (Elt F) S128 .i32)) : Prop :=
  ∀ (v : View sig .scVector .vmem S128 .i32) (f : v.ty.Contents (Elt F)) (y : S128.Idx),
    v.read (Elt F) (v.writes (Elt F) f Ps) y = (if (y 0).val < 16 * n then w y + c else w y : BitVec 32)

theorem raised_zero (c : BitVec 32) (w : S128.Idx → BitVec 32) : Raised (F := F) c w 0 [⟨Rect.whole S128, w⟩] := by
  intro v f y
  rw [View.read_writes_whole, if_neg (by omega)]

theorem raised_succ {c : BitVec 32} {w : S128.Idx → BitVec 32} {n : ℕ} {Ps : List (View.Piece (Elt F) S128 .i32)} (h : Raised c w n Ps)
    (o : Fin 1 → ℕ) (ho : o = ![16 * n]) (inb : ∀ a, o a + S16.size a ≤ S128.size a) (p : S16.Idx → BitVec 32) (v : View sig .scVector .vmem S128 .i32)
    (hp : p = fun x => (v.readCov Ps (Rect.unit (s := S128) o S16.size inb).toLoadRect x + c : BitVec 32)) :
    Raised c w (n + 1) (⟨Rect.unit (s := S128) o S16.size inb, p⟩ :: Ps) := by
  intro v' f y
  subst ho
  by_cases hy : y ∈ (Rect.unit (s := S128) ![16 * n] S16.size inb).set
  · obtain ⟨x, rfl⟩ : ∃ x, (Rect.unit (s := S128) ![16 * n] S16.size inb).emb x = y := (Rect.unit (s := S128) ![16 * n] S16.size inb).exists_idx_of_mem hy
    rw [View.read_writes_cons_emb, hp]
    have hx : (x 0).val < 16 := (x 0).isLt
    have he : (((Rect.unit (s := S128) ![16 * n] S16.size inb).emb x) 0).val = 16 * n + 1 * (x 0).val := rfl
    have hr : v.readCov Ps (Rect.unit (s := S128) ![16 * n] S16.size inb).toLoadRect x = w ((Rect.unit (s := S128) ![16 * n] S16.size inb).emb x) := by
      refine (h v v.junk ((Rect.unit (s := S128) ![16 * n] S16.size inb).emb x)).trans ?_
      rw [if_neg (by omega)]
    rw [if_pos (by omega)]
    exact congrArg (· + c) hr
  · have hy' : y ∉ Finset.univ.map (Rect.unit (s := S128) ![16 * n] S16.size inb).emb := by rwa [Rect.map_emb_univ]
    rw [View.writes_cons, View.read_slice_write_of_not_mem _ _ _ _ hy', h]
    rw [Rect.mem_set_unit] at hy
    have hn : ¬ (16 * n ≤ (y 0).val ∧ (y 0).val < 16 * n + 16) := fun hh => hy fun a => match a with | ⟨0, _⟩ => hh
    by_cases h1 : (y 0).val < 16 * n
    · rw [if_pos h1, if_pos (by omega)]
    · rw [if_neg h1, if_neg (by omega)]

theorem raised_read {c : BitVec 32} {w : S128.Idx → BitVec 32} {Ps : List (View.Piece (Elt F) S128 .i32)} (h : Raised c w 8 Ps)
    (v : View sig .scVector .vmem S128 .i32) (f : v.ty.Contents (Elt F)) : v.read (Elt F) (v.writes (Elt F) f Ps) = (fun y => w y + c : S128.Idx → BitVec 32) := by
  funext y
  have hy : (y 0).val < 128 := (y 0).isLt
  rw [h, if_pos (by omega)]

/-- The sum each store writes. -/
theorem raise_eq (c : BitVec 32) (v : S16.Idx → BitVec 32) :
    shapeCast S16 (addi (shapeCast S16 v shapeCasts_S16_S16) (broadcast S16 c)) shapeCasts_S16_S16 = fun x => v x + c := by
  rw [shapeCast_self, shapeCast_self]; rfl

/-- A chunk of the indices, raised, is the chunk's list. -/
theorem fetch_eq (k : ℕ) (hk : k < 32) (off : Fin 1 → ℕ) (inb : ∀ a, off a + S128.size a ≤ S131072.size a) (hoff : off = ![4096 * tileNo L + 128 * k])
    (c : BitVec 32) (hc : c = BitVec.ofNat 32 (512 * (tileNo L / 8))) (y : S128.Idx) :
    @HAdd.hAdd (BitVec 32) (BitVec 32) (BitVec 32) _ (((iV).slice (Rect.unit (s := S131072) off S128.size inb) (fun _ => rfl)).view.read (Elt F) ids y) c = rowList L ids k y := by
  subst hoff hc
  have hw := tileNo_lt L
  have hy : (y 0).val < 128 := (y 0).isLt
  unfold rowList
  refine congrArg (· + _) ?_
  show ids _ = ids _
  refine congrArg ids (funext fun a => Fin.ext ?_)
  match a with
  | ⟨0, _⟩ =>
    show 4096 * tileNo L + 128 * k + 1 * (y 0).val = (4096 * tileNo L + 128 * k + (y 0).val) % 131072
    rw [Nat.mod_eq_of_lt (by omega)]; omega

/-! ## The trips' choices -/

theorem cond1_iff : ∀ k : Fin k1_t1_loop.trips, (k1_cond1 k = 1#1 ↔ k.val + 1 < 32) := by decide +kernel
theorem cond2_iff : ∀ k : Fin k1_t1_loop.trips, (k1_cond2 k = 1#1 ↔ k.val % 2 = 0) := by decide +kernel
theorem cond3_iff : ∀ k : Fin k1_t1_loop.trips, (k1_cond3 k = 1#1 ↔ k.val % 2 = 1) := by decide +kernel
theorem trips_lt (k : Fin k1_t1_loop.trips) : k.val < 32 := Nat.lt_of_lt_of_le k.isLt k1_t1_abs.2.1

/-- What a tile holds between two chunks: the chunk about to be taken is in flight in the slot of its parity. -/
def inv (qi qa qb : PosShare TreeShare) (O : CellTallies nD τ sig (HIx 1)) (W : Waits sig (HIx 1)) (k : ℕ) (_ : BitVec 32) : sProp 𝕄 :=
  iprop(Transfers.MayWaits (thr d L) (default : HIx 1) O
    ∗ ((iV).view.loc (thr d L) ↦{qi} ids)
    ∗ ((oV).view.loc (thr d L) ↦[block L]{fullShare} outAfter L tab ids o₀ k)
    ∗ (if k % 2 = 0 ∧ k < 32 then busy d L tab ids qa l0 r0 cc1_scratch4.sem k else free d L tab qa l0 r0 cc1_scratch4.sem)
    ∗ (if k % 2 = 1 ∧ k < 32 then busy d L tab ids qb l1 r1 cc1_scratch5.sem k else free d L tab qb l1 r1 cc1_scratch5.sem)
    ∗ semVal (thr d L, SemLoc.dma cc1_scoped1.sem) 0 ∗ semVal (thr d L, SemLoc.dma cc1_scoped2.sem) 0
    ∗ semVal (thr d L, SemLoc.dma cc1_scoped3.sem) 0 ∗ semVal (thr d L, SemLoc.dma cc1_scoped4.sem) 0
    ∗ ∃ W', ⌜∀ p ∈ W', p ∈ W ∨ p.2 = none⌝ ∗ owes (thr d L) O W')

theorem credit_r0 : ∑ j, ((r0).slice (S128x128.rowRect gathers_S2048x128_S128x128.axis' j) (S128x128.stride_rowRect gathers_S2048x128_S128x128.axis' j)).view.dmaCredit = (r0).view.dmaCredit := by decide +kernel
theorem credit_r1 : ∑ j, ((r1).slice (S128x128.rowRect gathers_S2048x128_S128x128.axis' j) (S128x128.stride_rowRect gathers_S2048x128_S128x128.axis' j)).view.dmaCredit = (r1).view.dmaCredit := by decide +kernel

set_option maxHeartbeats 4000000 in
/-- An even trip: the next chunk's gather starts in the odd slot, the even slot's rows land and go out. -/
theorem trip_even (hids : ∀ x, (ids x).toNat < 512) (qi qa qb : PosShare TreeShare) (k : Fin k1_t1_loop.trips) (acc v2 v21 : BitVec 32)
    (hv21 : v21 = BitVec.ofNat 32 (512 * (tileNo L / 8)))
    (O : CellTallies nD τ sig (HIx 1)) (W : Waits sig (HIx 1)) (hk : k.val % 2 = 0) :
    inv d L tab ids o₀ qi qa qb O W k.val acc
      ⊢ wp frame (wpE (defs₀ (F := F)) 𝒱₀ (thr d L) none) Set.univ
          (k1_t1_body L tV (Memref.isWhole_whole _) iV (Memref.isWhole_whole _) oV (Memref.isWhole_whole _)
            l0 (Memref.isWhole_whole _) l1 (Memref.isWhole_whole _) r0 (Memref.isWhole_whole _) r1 (Memref.isWhole_whole _)
            cc1_scratch4 cc1_scratch5 cc1_scoped0 cc1_scoped1 cc1_scoped2 cc1_scoped3 cc1_scoped4 v2 v21 k acc)
          (fun a => inv d L tab ids o₀ qi qa qb O W (k.val + 1) a) := by
  have hk32 := trips_lt k
  have h2 : k1_cond2 k = 1#1 := (cond2_iff k).mpr hk
  have h3 : ¬ k1_cond3 k = 1#1 := fun h => by have := (cond3_iff k).mp h; omega
  unfold inv k1_t1_body
  rw [if_pos (show k.val % 2 = 0 ∧ k.val < 32 from ⟨hk, hk32⟩), if_neg (show ¬ (k.val % 2 = 1 ∧ k.val < 32) from by omega),
    if_neg (show ¬ ((k.val + 1) % 2 = 0 ∧ k.val + 1 < 32) from by omega)]
  have hn : k.val + 1 < 32 := by omega
  have h1 : k1_cond1 k = 1#1 := (cond1_iff k).mpr hn
  rw [if_pos (show (k.val + 1) % 2 = 1 ∧ k.val + 1 < 32 from by omega)]
  unfold free
  iintro ⟨#Hmw, Hi, Ho, Hb, ⟨⟨%fd, Hr1⟩, ⟨%fo, Hl1⟩, Ht, Hs5⟩, Hsc1, Hsc2, Hsc3, Hsc4, %W', %hW', HO⟩
  sl_exec
  iapply (wp_gather d L tab ids qb (defs₀ (F := F)) hids (k.val + 1) hn l1 r1 cc1_scratch5.sem credit_r1) $$ [Ht Hr1 Hl1 Hs5]
  · isplitl [Ht]; · iexact Ht
    isplitl [Hr1]; · iexists fd; iexact Hr1
    isplitl [Hl1]
    · iexists _; isplitl [Hl1]; · iexact Hl1
      ipureintro
      refine (raised_read (c := v21) (w := trip_even.sl.dma0 (F := F) L ids k h2 h1) ?_ _ _).trans ?_
      · exact raised_succ (raised_succ (raised_succ (raised_succ (raised_succ (raised_succ (raised_succ (raised_succ
          (raised_zero _ _)
          ![0] rfl inb_S128_S16_0 _ (l1).view (raise_eq _ _))
          ![16] rfl inb_S128_S16_16 _ (l1).view (raise_eq _ _))
          ![32] rfl inb_S128_S16_32 _ (l1).view (raise_eq _ _))
          ![48] rfl inb_S128_S16_48 _ (l1).view (raise_eq _ _))
          ![64] rfl inb_S128_S16_64 _ (l1).view (raise_eq _ _))
          ![80] rfl inb_S128_S16_80 _ (l1).view (raise_eq _ _))
          ![96] rfl inb_S128_S16_96 _ (l1).view (raise_eq _ _))
          ![112] rfl inb_S128_S16_112 _ (l1).view (raise_eq _ _)
      · funext y
        exact fetch_eq (F := F) L ids (k.val + 1) hn _ (k1_off2_inb L k h1 h2) (by rw [k1_off2_eq]; unfold tileNo; congr 1; omega) v21 hv21 y
    iexact Hs5
  iintro Hb1
  ihave Ho' := (out_open d L tab ids o₀ k.val hk32 (k1_off5 L k) (k1_off5_inb L k h3) (by rw [k1_off5_eq]; unfold tileNo; congr 1; omega)) $$ Ho
  icases Ho' with ⟨Ho, Hback⟩
  sl_exec
  iapply (wp_landed d L tab ids qa (defs₀ (F := F)) k.val l0 r0 cc1_scratch4.sem O _) $$ [Hb HO]
  · isplitr; · iexact Hmw
    isplitl [Hb]; · iexact Hb
    iexact HO
  iintro ⟨-, ⟨%fd', Hr0⟩, Hl0, Ht0, Hs4, HO⟩
  sl_exec (disch := exact View.amount_pos _ _ (show 0 < S128x128.numel by decide))
  sl_step
  isplitr; · iexact Hmw
  isplitl [Hi]; · iexact Hi
  isplitl [Hback Ho]
  · iapply Hback; iexists _; isplitl [Ho]; · iexact Ho
    ipureintro; exact (View.read_writes_whole _ _ _).trans (View.read_write_univ _ _)
  isplitl [Hl0 Ht0 Hs4 Hr0]
  · isplitl [Hr0]; · iexists _; iexact Hr0
    isplitl [Hl0]; · iexact Hl0
    isplitl [Ht0]; · iexact Ht0
    iexact Hs4
  isplitl [Hb1]; · iexact Hb1
  isplitl [Hsc1]; · iexact Hsc1
  isplitl [Hsc2]; · iexact Hsc2
  isplitl [Hsc3]; · iexact Hsc3
  isplitl [Hsc4]; · iexact Hsc4
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    · exact hW' p hp

set_option maxHeartbeats 4000000 in
/-- An odd trip, the other way round; the last starts no gather. -/
theorem trip_odd (hids : ∀ x, (ids x).toNat < 512) (qi qa qb : PosShare TreeShare) (k : Fin k1_t1_loop.trips) (acc v2 v21 : BitVec 32)
    (hv21 : v21 = BitVec.ofNat 32 (512 * (tileNo L / 8)))
    (O : CellTallies nD τ sig (HIx 1)) (W : Waits sig (HIx 1)) (hk : k.val % 2 = 1) :
    inv d L tab ids o₀ qi qa qb O W k.val acc
      ⊢ wp frame (wpE (defs₀ (F := F)) 𝒱₀ (thr d L) none) Set.univ
          (k1_t1_body L tV (Memref.isWhole_whole _) iV (Memref.isWhole_whole _) oV (Memref.isWhole_whole _)
            l0 (Memref.isWhole_whole _) l1 (Memref.isWhole_whole _) r0 (Memref.isWhole_whole _) r1 (Memref.isWhole_whole _)
            cc1_scratch4 cc1_scratch5 cc1_scoped0 cc1_scoped1 cc1_scoped2 cc1_scoped3 cc1_scoped4 v2 v21 k acc)
          (fun a => inv d L tab ids o₀ qi qa qb O W (k.val + 1) a) := by
  have hk32 := trips_lt k
  have h2 : ¬ k1_cond2 k = 1#1 := fun h => by have := (cond2_iff k).mp h; omega
  have h3 : k1_cond3 k = 1#1 := (cond3_iff k).mpr hk
  unfold inv k1_t1_body
  rw [if_neg (show ¬ (k.val % 2 = 0 ∧ k.val < 32) from by omega), if_pos (show k.val % 2 = 1 ∧ k.val < 32 from ⟨hk, hk32⟩),
    if_neg (show ¬ ((k.val + 1) % 2 = 1 ∧ k.val + 1 < 32) from by omega)]
  by_cases h1 : k1_cond1 k = 1#1
  · have hn : k.val + 1 < 32 := (cond1_iff k).mp h1
    rw [if_pos (show (k.val + 1) % 2 = 0 ∧ k.val + 1 < 32 from by omega)]
    unfold free
    iintro ⟨#Hmw, Hi, Ho, ⟨⟨%fd, Hr0⟩, ⟨%fo, Hl0⟩, Ht, Hs4⟩, Hb, Hsc1, Hsc2, Hsc3, Hsc4, %W', %hW', HO⟩
    sl_exec
    iapply (wp_gather d L tab ids qa (defs₀ (F := F)) hids (k.val + 1) hn l0 r0 cc1_scratch4.sem credit_r0) $$ [Ht Hr0 Hl0 Hs4]
    · isplitl [Ht]; · iexact Ht
      isplitl [Hr0]; · iexists fd; iexact Hr0
      isplitl [Hl0]
      · iexists _; isplitl [Hl0]; · iexact Hl0
        ipureintro
        refine (raised_read (c := v21) (w := trip_odd.sl.dma0 (F := F) L ids k h2 h1) ?_ _ _).trans ?_
        · exact raised_succ (raised_succ (raised_succ (raised_succ (raised_succ (raised_succ (raised_succ (raised_succ
            (raised_zero _ _)
            ![0] rfl inb_S128_S16_0 _ (l0).view (raise_eq _ _))
            ![16] rfl inb_S128_S16_16 _ (l0).view (raise_eq _ _))
            ![32] rfl inb_S128_S16_32 _ (l0).view (raise_eq _ _))
            ![48] rfl inb_S128_S16_48 _ (l0).view (raise_eq _ _))
            ![64] rfl inb_S128_S16_64 _ (l0).view (raise_eq _ _))
            ![80] rfl inb_S128_S16_80 _ (l0).view (raise_eq _ _))
            ![96] rfl inb_S128_S16_96 _ (l0).view (raise_eq _ _))
            ![112] rfl inb_S128_S16_112 _ (l0).view (raise_eq _ _)
        · funext y
          exact fetch_eq (F := F) L ids (k.val + 1) hn _ (k1_off3_inb L k h1 h2) (by rw [k1_off3_eq]; unfold tileNo; congr 1; omega) v21 hv21 y
      iexact Hs4
    iintro Hb0
    ihave Ho' := (out_open d L tab ids o₀ k.val hk32 (k1_off4 L k) (k1_off4_inb L k h3) (by rw [k1_off4_eq]; unfold tileNo; congr 1; omega)) $$ Ho
    icases Ho' with ⟨Ho, Hback⟩
    sl_exec
    iapply (wp_landed d L tab ids qb (defs₀ (F := F)) k.val l1 r1 cc1_scratch5.sem O _) $$ [Hb HO]
    · isplitr; · iexact Hmw
      isplitl [Hb]; · iexact Hb
      iexact HO
    iintro ⟨-, ⟨%fd', Hr1⟩, Hl1, Ht1, Hs5, HO⟩
    sl_exec (disch := exact View.amount_pos _ _ (show 0 < S128x128.numel by decide))
    sl_step
    isplitr; · iexact Hmw
    isplitl [Hi]; · iexact Hi
    isplitl [Hback Ho]
    · iapply Hback; iexists _; isplitl [Ho]; · iexact Ho
      ipureintro; exact (View.read_writes_whole _ _ _).trans (View.read_write_univ _ _)
    isplitl [Hb0]; · iexact Hb0
    isplitl [Hl1 Ht1 Hs5 Hr1]
    · isplitl [Hr1]; · iexists _; iexact Hr1
      isplitl [Hl1]; · iexact Hl1
      isplitl [Ht1]; · iexact Ht1
      iexact Hs5
    isplitl [Hsc1]; · iexact Hsc1
    isplitl [Hsc2]; · iexact Hsc2
    isplitl [Hsc3]; · iexact Hsc3
    isplitl [Hsc4]; · iexact Hsc4
    iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      rcases Finset.mem_insert.mp hp with hp | hp
      · exact .inr (hp ▸ rfl)
      · exact hW' p hp
  · have hn : ¬ k.val + 1 < 32 := fun h => h1 ((cond1_iff k).mpr h)
    rw [if_neg (show ¬ ((k.val + 1) % 2 = 0 ∧ k.val + 1 < 32) from by omega)]
    unfold free
    iintro ⟨#Hmw, Hi, Ho, ⟨⟨%fd, Hr0⟩, ⟨%fo, Hl0⟩, Ht, Hs4⟩, Hb, Hsc1, Hsc2, Hsc3, Hsc4, %W', %hW', HO⟩
    ihave Ho' := (out_open d L tab ids o₀ k.val hk32 (k1_off4 L k) (k1_off4_inb L k h3) (by rw [k1_off4_eq]; unfold tileNo; congr 1; omega)) $$ Ho
    icases Ho' with ⟨Ho, Hback⟩
    sl_exec
    iapply (wp_landed d L tab ids qb (defs₀ (F := F)) k.val l1 r1 cc1_scratch5.sem O _) $$ [Hb HO]
    · isplitr; · iexact Hmw
      isplitl [Hb]; · iexact Hb
      iexact HO
    iintro ⟨-, ⟨%fd', Hr1⟩, Hl1, Ht1, Hs5, HO⟩
    sl_exec (disch := exact View.amount_pos _ _ (show 0 < S128x128.numel by decide))
    sl_step
    isplitr; · iexact Hmw
    isplitl [Hi]; · iexact Hi
    isplitl [Hback Ho]
    · iapply Hback; iexists _; isplitl [Ho]; · iexact Ho
      ipureintro; exact (View.read_writes_whole _ _ _).trans (View.read_write_univ _ _)
    isplitl [Hl0 Ht Hs4 Hr0]
    · isplitl [Hr0]; · iexists _; iexact Hr0
      isplitl [Hl0]; · iexists _; iexact Hl0
      isplitl [Ht]; · iexact Ht
      iexact Hs4
    isplitl [Hl1 Ht1 Hs5 Hr1]
    · isplitl [Hr1]; · iexists _; iexact Hr1
      isplitl [Hl1]; · iexact Hl1
      isplitl [Ht1]; · iexact Ht1
      iexact Hs5
    isplitl [Hsc1]; · iexact Hsc1
    isplitl [Hsc2]; · iexact Hsc2
    isplitl [Hsc3]; · iexact Hsc3
    isplitl [Hsc4]; · iexact Hsc4
    iexists _; isplitr
    rotate_left
    · iexact HO
    · ipureintro; intro p hp
      rcases Finset.mem_insert.mp hp with hp | hp
      · exact .inr (hp ▸ rfl)
      rcases Finset.mem_insert.mp hp with hp | hp
      · exact .inr (hp ▸ rfl)
      · exact hW' p hp

end Cert.KernelIdeal.Run

end
-- ==== Proof.KI.TileBody.lean ====
/-
  The whole task of a vector subcore: the first chunk's indices and gather, the loop over the chunks.
-/
module

public import proofs.«01_k».proof.Proof.KI.Trip

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

local notation "tV" => (Memref.whole Cert.KernelIdeal.main_v3_scv : Memref Cert.KernelIdeal.sig Kind.scVector Space.hbm Cert.KernelIdeal.S2048x128 EltTy.f32)
local notation "iV" => (Memref.whole Cert.KernelIdeal.main_v7_scv : Memref Cert.KernelIdeal.sig Kind.scVector Space.hbm Cert.KernelIdeal.S131072 EltTy.i32)
local notation "oV" => (Memref.whole Cert.KernelIdeal.main_v8_scv : Memref Cert.KernelIdeal.sig Kind.scVector Space.hbm Cert.KernelIdeal.S131072x128 EltTy.f32)
local notation "l0" => (Memref.whole Cert.KernelIdeal.cc1_scratch0 : Memref Cert.KernelIdeal.sig Kind.scVector Space.vmem Cert.KernelIdeal.S128 EltTy.i32)
local notation "l1" => (Memref.whole Cert.KernelIdeal.cc1_scratch1 : Memref Cert.KernelIdeal.sig Kind.scVector Space.vmem Cert.KernelIdeal.S128 EltTy.i32)
local notation "r0" => (Memref.whole Cert.KernelIdeal.cc1_scratch2 : Memref Cert.KernelIdeal.sig Kind.scVector Space.vmem Cert.KernelIdeal.S128x128 EltTy.f32)
local notation "r1" => (Memref.whole Cert.KernelIdeal.cc1_scratch3 : Memref Cert.KernelIdeal.sig Kind.scVector Space.vmem Cert.KernelIdeal.S128x128 EltTy.f32)

variable (d : Dev nD) (L : grid1.Coords)
variable (tab : S2048x128.Idx → Elt F .f32) (ids : S131072.Idx → BitVec 32) (o₀ : S131072x128.Idx → Elt F .f32)

theorem out_start : (((oV).view.loc (thr d L) ↦[block L]{fullShare} o₀) : sProp 𝕄)
    ⊢ ((oV).view.loc (thr d L) ↦[block L]{fullShare} outAfter L tab ids o₀ 0) :=
  Entails.of_eq (pointsTo_congr fun x hx => by
    have h := (Finset.mem_filter.mp hx).2
    unfold outAfter
    rw [if_neg (by omega)])

theorem out_done (n : ℕ) (hn : n = 32) : (((oV).view.loc (thr d L) ↦[block L]{fullShare} outAfter L tab ids o₀ n) : sProp 𝕄)
    ⊢ ((oV).view.loc (thr d L) ↦[block L]{fullShare} gathered tab ids) :=
  Entails.of_eq (pointsTo_congr fun x hx => by
    have h := (Finset.mem_filter.mp hx).2
    unfold outAfter
    rw [if_pos (by omega)])

theorem trip (hids : ∀ x, (ids x).toNat < 512) (qi qa qb : PosShare TreeShare) (k : Fin k1_t1_loop.trips) (acc v2 v21 : BitVec 32)
    (hv21 : v21 = BitVec.ofNat 32 (512 * (tileNo L / 8)))
    (O : CellTallies nD τ sig (HIx 1)) (W : Waits sig (HIx 1)) :
    inv d L tab ids o₀ qi qa qb O W k.val acc
      ⊢ wp frame (wpE (defs₀ (F := F)) 𝒱₀ (thr d L) none) Set.univ
          (k1_t1_body L tV (Memref.isWhole_whole _) iV (Memref.isWhole_whole _) oV (Memref.isWhole_whole _)
            l0 (Memref.isWhole_whole _) l1 (Memref.isWhole_whole _) r0 (Memref.isWhole_whole _) r1 (Memref.isWhole_whole _)
            cc1_scratch4 cc1_scratch5 cc1_scoped0 cc1_scoped1 cc1_scoped2 cc1_scoped3 cc1_scoped4 v2 v21 k acc)
          (fun a => inv d L tab ids o₀ qi qa qb O W (k.val + 1) a) := by
  rcases Nat.mod_two_eq_zero_or_one k.val with hk | hk
  · exact trip_even d L tab ids o₀ hids qi qa qb k acc v2 v21 hv21 O W hk
  · exact trip_odd d L tab ids o₀ hids qi qa qb k acc v2 v21 hv21 O W hk

theorem trips_eq : k1_t1_loop.trips = 32 := by decide +kernel

set_option maxHeartbeats 8000000 in
/-- A tile with its share of the table and of the indices leaves its rows of the result gathered. -/
theorem tile_run (hids : ∀ x, (ids x).toNat < 512) (qi qa qb : PosShare TreeShare)
    (O : CellTallies nD τ sig (HIx 1)) (W : Waits sig (HIx 1)) :
    iprop(Transfers.MayWaits (thr d L) (default : HIx 1) O
        ∗ ((iV).view.loc (thr d L) ↦{qi} ids) ∗ ((oV).view.loc (thr d L) ↦[block L]{fullShare} o₀)
        ∗ free d L tab qa l0 r0 cc1_scratch4.sem ∗ free d L tab qb l1 r1 cc1_scratch5.sem
        ∗ semVal (thr d L, SemLoc.dma cc1_scoped0.sem) 0
        ∗ semVal (thr d L, SemLoc.dma cc1_scoped1.sem) 0 ∗ semVal (thr d L, SemLoc.dma cc1_scoped2.sem) 0
        ∗ semVal (thr d L, SemLoc.dma cc1_scoped3.sem) 0 ∗ semVal (thr d L, SemLoc.dma cc1_scoped4.sem) 0
        ∗ owes (thr d L) O W : sProp 𝕄)
      ⊢ wp frame (wpE (defs₀ (F := F)) 𝒱₀ (thr d L) none) Set.univ
          (cc1_gather_k L tV (Memref.isWhole_whole _) iV (Memref.isWhole_whole _) oV (Memref.isWhole_whole _)
            l0 (Memref.isWhole_whole _) l1 (Memref.isWhole_whole _) r0 (Memref.isWhole_whole _) r1 (Memref.isWhole_whole _)
            cc1_scratch4 cc1_scratch5 cc1_scoped0 cc1_scoped1 cc1_scoped2 cc1_scoped3 cc1_scoped4)
          (fun _ => iprop(((iV).view.loc (thr d L) ↦{qi} ids) ∗ ((oV).view.loc (thr d L) ↦[block L]{fullShare} gathered tab ids)
            ∗ free d L tab qa l0 r0 cc1_scratch4.sem ∗ free d L tab qb l1 r1 cc1_scratch5.sem
            ∗ semVal (thr d L, SemLoc.dma cc1_scoped0.sem) 0
            ∗ semVal (thr d L, SemLoc.dma cc1_scoped1.sem) 0 ∗ semVal (thr d L, SemLoc.dma cc1_scoped2.sem) 0
            ∗ semVal (thr d L, SemLoc.dma cc1_scoped3.sem) 0 ∗ semVal (thr d L, SemLoc.dma cc1_scoped4.sem) 0
            ∗ ∃ W', ⌜∀ p ∈ W', p ∈ W ∨ p.2 = none⌝ ∗ owes (thr d L) O W')) := by
  rw [cc1_gather_k_eq_skeleton]; unfold cc1_gather_k_skel
  iintro ⟨#Hmw, Hi, Ho, Hf0, Hf1, Hsc0, Hsc1, Hsc2, Hsc3, Hsc4, HO⟩
  unfold free
  icases Hf0 with ⟨⟨%fd, Hr0⟩, ⟨%fo, Hl0⟩, Ht, Hs4⟩
  sl_exec
  have hv21 : tile_run.sl.v21 L = BitVec.ofNat 32 (512 * (tileNo L / 8)) :=
    (show ∀ L : grid1.Coords, tile_run.sl.v21 L = BitVec.ofNat 32 (512 * (tileNo L / 8)) by decide +kernel) L
  iapply (wp_gather d L tab ids qa (defs₀ (F := F)) hids 0 (by decide) l0 r0 cc1_scratch4.sem credit_r0) $$ [Ht Hr0 Hl0 Hs4]
  · isplitl [Ht]; · iexact Ht
    isplitl [Hr0]; · iexists fd; iexact Hr0
    isplitl [Hl0]
    · iexists _; isplitl [Hl0]; · iexact Hl0
      ipureintro
      refine (raised_read (c := tile_run.sl.v21 L) (w := tile_run.sl.dma0 (F := F) L ids) ?_ _ _).trans ?_
      · exact raised_succ (raised_succ (raised_succ (raised_succ (raised_succ (raised_succ (raised_succ (raised_succ
          (raised_zero _ _)
          ![0] rfl inb_S128_S16_0 _ (l0).view (raise_eq _ _))
          ![16] rfl inb_S128_S16_16 _ (l0).view (raise_eq _ _))
          ![32] rfl inb_S128_S16_32 _ (l0).view (raise_eq _ _))
          ![48] rfl inb_S128_S16_48 _ (l0).view (raise_eq _ _))
          ![64] rfl inb_S128_S16_64 _ (l0).view (raise_eq _ _))
          ![80] rfl inb_S128_S16_80 _ (l0).view (raise_eq _ _))
          ![96] rfl inb_S128_S16_96 _ (l0).view (raise_eq _ _))
          ![112] rfl inb_S128_S16_112 _ (l0).view (raise_eq _ _)
      · funext y
        exact fetch_eq (F := F) L ids 0 (by decide) _ (k1_off1_inb L) (by rw [k1_off1_eq]; unfold tileNo; congr 1; omega) _ hv21 y
    iexact Hs4
  iintro Hb
  ihave Ho := (out_start d L tab ids o₀) $$ Ho
  sl_for (inv d L tab ids o₀ qi qa qb O W) $$ [Hi Ho Hb Hf1 Hsc1 Hsc2 Hsc3 Hsc4 HO]
  case region =>
    intro k acc
    exact trip d L tab ids o₀ hids qi qa qb k acc _ _ hv21 O W
  · unfold inv
    rw [if_pos (by decide), if_neg (by decide)]
    unfold free
    isplitr; · iexact Hmw
    isplitl [Hi]; · iexact Hi
    isplitl [Ho]; · iexact Ho
    isplitl [Hb]; · iexact Hb
    isplitl [Hf1]; · iexact Hf1
    isplitl [Hsc1]; · iexact Hsc1
    isplitl [Hsc2]; · iexact Hsc2
    isplitl [Hsc3]; · iexact Hsc3
    isplitl [Hsc4]; · iexact Hsc4
    iexists _; isplitr
    rotate_left
    · iexact HO
    · ipureintro; intro p hp
      rcases Finset.mem_insert.mp hp with hp | hp
      · exact .inr (hp ▸ rfl)
      · exact .inl hp
  iintro %_ HI
  unfold inv
  rw [if_neg (show ¬ (k1_t1_loop.trips % 2 = 0 ∧ k1_t1_loop.trips < 32) from by rw [trips_eq]; decide),
    if_neg (show ¬ (k1_t1_loop.trips % 2 = 1 ∧ k1_t1_loop.trips < 32) from by rw [trips_eq]; decide)]
  icases HI with ⟨-, Hi, Ho, Hf0, Hf1, Hsc1, Hsc2, Hsc3, Hsc4, HO⟩
  ihave Ho := (out_done d L tab ids o₀ _ trips_eq) $$ Ho
  sl_exec
  sl_step
  unfold free
  isplitl [Hi]; · iexact Hi
  isplitl [Ho]; · iexact Ho
  isplitl [Hf0]; · iexact Hf0
  isplitl [Hf1]; · iexact Hf1
  isplitl [Hsc0]; · iexact Hsc0
  isplitl [Hsc1]; · iexact Hsc1
  isplitl [Hsc2]; · iexact Hsc2
  isplitl [Hsc3]; · iexact Hsc3
  isplitl [Hsc4]; · iexact Hsc4
  iexact HO

end Cert.KernelIdeal.Run

end
-- ==== Proof.KI.Sc.lean ====
/-
  The SparseCore call from the TensorCore: what its thirty-two tasks are handed and what they bring back.
-/
module

public import proofs.«01_k».proof.Proof.KI.TileBody
public import Idealize.SL.BI.BigOpNat

@[expose] public section

set_option maxRecDepth 16384

noncomputable section

namespace Cert.KernelIdeal.Run

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

local notation "tV" => (Memref.whole Cert.KernelIdeal.main_v3_scv : Memref Cert.KernelIdeal.sig Kind.scVector Space.hbm Cert.KernelIdeal.S2048x128 EltTy.f32)
local notation "iV" => (Memref.whole Cert.KernelIdeal.main_v7_scv : Memref Cert.KernelIdeal.sig Kind.scVector Space.hbm Cert.KernelIdeal.S131072 EltTy.i32)
local notation "oV" => (Memref.whole Cert.KernelIdeal.main_v8_scv : Memref Cert.KernelIdeal.sig Kind.scVector Space.hbm Cert.KernelIdeal.S131072x128 EltTy.f32)
local notation "l0" => (Memref.whole Cert.KernelIdeal.cc1_scratch0 : Memref Cert.KernelIdeal.sig Kind.scVector Space.vmem Cert.KernelIdeal.S128 EltTy.i32)
local notation "l1" => (Memref.whole Cert.KernelIdeal.cc1_scratch1 : Memref Cert.KernelIdeal.sig Kind.scVector Space.vmem Cert.KernelIdeal.S128 EltTy.i32)
local notation "r0" => (Memref.whole Cert.KernelIdeal.cc1_scratch2 : Memref Cert.KernelIdeal.sig Kind.scVector Space.vmem Cert.KernelIdeal.S128x128 EltTy.f32)
local notation "r1" => (Memref.whole Cert.KernelIdeal.cc1_scratch3 : Memref Cert.KernelIdeal.sig Kind.scVector Space.vmem Cert.KernelIdeal.S128x128 EltTy.f32)

/-! ## A read share cut in pieces -/

theorem sep_assoc_eq (A B C : sProp 𝕄) : iprop((A ∗ B) ∗ C) = iprop(A ∗ B ∗ C) := Entails.antisymm BI.sep_assoc BI.sep_assoc'
theorem sep_comm_eq (A B : sProp 𝕄) : iprop(A ∗ B) = iprop(B ∗ A) := Entails.antisymm BI.sep_comm BI.sep_comm
/-- Two-way entailment is equality. -/
theorem eq_of_both {A B : sProp 𝕄} (h : A ⊢ B) (h' : B ⊢ A) : A = B := Entails.antisymm h h'

/-- Piece `n` of a share: its left half after `n` right turns. -/
def piece : ℕ → PosShare TreeShare → PosShare TreeShare
  | 0, q => q.left
  | n + 1, q => piece n q.right
/-- What is left of a share once its first `n` pieces are given away. -/
def remains : ℕ → PosShare TreeShare → PosShare TreeShare
  | 0, q => q
  | n + 1, q => remains n q.right

theorem piece_eq (n : ℕ) (q : PosShare TreeShare) : piece n q = (remains n q).left := by
  induction n generalizing q with
  | zero => rfl
  | succ n ih => exact ih _
theorem remains_succ (n : ℕ) (q : PosShare TreeShare) : remains (n + 1) q = (remains n q).right := by
  induction n generalizing q with
  | zero => rfl
  | succ n ih => exact ih _

/-- A buffer held at a share is held at the share's two halves. -/
theorem pointsTo_halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  Entails.antisymm (pointsTo_share (PosShare.mem_left_op_right q)).1 (pointsTo_share (PosShare.mem_left_op_right q)).2

/-- A buffer held at a share is held at its first `n` pieces and at what remains of it. -/
theorem pointsTo_pieces {ℓ : Loc nD τ sig} (q : PosShare TreeShare) (f : Buf (Elt F) ℓ) (n : ℕ) :
    (ℓ ↦{q} f : sProp 𝕄) = iprop((bigSep (Finset.range n) fun w => ℓ ↦{piece w q} f) ∗ ℓ ↦{remains n q} f) := by
  induction n with
  | zero =>
    rw [Finset.range_zero, bigSep_empty]
    exact Entails.antisymm emp_sep.2 emp_sep.1
  | succ n ih =>
    rw [ih, bigSep_range_succ, piece_eq, remains_succ, pointsTo_halves _ (remains n q), ← sep_assoc_eq]
    refine congrArg (fun A => iprop(A ∗ ℓ ↦{(remains n q).right} f)) ?_
    exact sep_comm_eq _ _

/-! ## What the tasks are handed -/

section
variable (d : Dev nD) (tab : S2048x128.Idx → Elt F .f32) (ids : S131072.Idx → BitVec 32) (o : S131072x128.Idx → Elt F .f32)

/-- The rows of the result that task `w` fills. -/
def rowsAt (w : ℕ) : Finset S131072x128.Idx := Finset.univ.filter fun x => 4096 * w ≤ (x 0).val ∧ (x 0).val < 4096 * w + 4096

/-- Task `w`'s part: a piece of the table, a piece of the row numbers, its rows of the result. -/
def part (w : ℕ) : sProp 𝕄 :=
  iprop((tLoc d ↦{piece w fullShare} tab) ∗ (iLoc d ↦{piece w fullShare} ids) ∗ oLoc d ↦[rowsAt w]{fullShare} o)

instance part_storable (w : ℕ) : BI.Storable (upEmb : UEmb _ 𝕄) (part d tab ids o w) := by unfold part; infer_instance

theorem rowsAt_cover : (Finset.range 32).biUnion rowsAt = Finset.univ := by
  ext x
  have h : (x 0).val < 131072 := (x 0).isLt
  simp only [rowsAt, Finset.mem_biUnion, Finset.mem_range, Finset.mem_filter, Finset.mem_univ, true_and, iff_true]
  exact ⟨(x 0).val / 4096, by omega, by omega, by omega⟩
theorem rowsAt_disjoint : ∀ w ∈ Finset.range 32, ∀ w' ∈ Finset.range 32, w ≠ w' → Disjoint (rowsAt w) (rowsAt w') := by
  intro w _ w' _ h
  refine Finset.disjoint_left.mpr fun x h1 h2 => ?_
  simp only [rowsAt, Finset.mem_filter, Finset.mem_univ, true_and] at h1 h2
  omega

/-- The thirty-two tasks, by core and subcore. -/
theorem bigSep_pairs (Φ : ℕ → sProp 𝕄) :
    (bigSep (Finset.range 32) Φ) = bigSep Finset.univ fun c : Fin 2 => bigSep Finset.univ fun s : Fin 16 => Φ (2 * s.val + c.val) := by
  rw [← bigSep_univ_prod (fun p : Fin 2 × Fin 16 => Φ (2 * p.2.val + p.1.val)),
    show Finset.range 32 = (Finset.univ : Finset (Fin 2 × Fin 16)).image (fun p => 2 * p.2.val + p.1.val) by decide,
    bigSep_image_of_injOn]
  intro p _ p' _ h
  have e : 2 * p.2.val + p.1.val = 2 * p'.2.val + p'.1.val := h
  exact Prod.ext (Fin.ext (by omega)) (Fin.ext (by omega))

/-- The three buffers whole are the thirty-two parts and what remains of the two that are read. -/
theorem parts_eq :
    iprop((tLoc d ↦{fullShare} tab) ∗ (iLoc d ↦{fullShare} ids) ∗ oLoc d ↦{fullShare} o : sProp 𝕄)
      = iprop((bigSep Finset.univ fun c : Fin 2 => bigSep Finset.univ fun s : Fin 16 => part d tab ids o (2 * s.val + c.val))
          ∗ (tLoc d ↦{remains 32 fullShare} tab) ∗ iLoc d ↦{remains 32 fullShare} ids) := by
  rw [← bigSep_pairs (fun w => part d tab ids o w)]
  unfold part
  rw [bigSep_sep', bigSep_sep',
    show (tLoc d ↦{fullShare} tab : sProp 𝕄) = _ from pointsTo_pieces (ℓ := tLoc d) fullShare tab 32,
    show (iLoc d ↦{fullShare} ids : sProp 𝕄) = _ from pointsTo_pieces (ℓ := iLoc d) fullShare ids 32]
  rw [show (oLoc d ↦{fullShare} o : sProp 𝕄) = bigSep (Finset.range 32) fun w => oLoc d ↦[rowsAt w]{fullShare} o from by
    rw [← rowsAt_cover]; exact pointsTo_biUnion (ℓ := oLoc d) (Finset.range 32) rowsAt rowsAt_disjoint]
  refine eq_of_both ?_ ?_
  · iintro ⟨⟨A, B⟩, ⟨C, E⟩, G⟩
    isplitl [A C G]
    · isplitl [A]; · iexact A
      isplitl [C]; · iexact C
      iexact G
    isplitl [B]; · iexact B
    iexact E
  · iintro ⟨⟨A, C, G⟩, B, E⟩
    isplitl [A B]
    · isplitl [A]; · iexact A
      iexact B
    isplitl [C E]
    · isplitl [C]; · iexact C
      iexact E
    iexact G

end

/-! ## The call's resources -/

variable (tab : Dev nD → S2048x128.Idx → Elt F .f32) (ids : Dev nD → S131072.Idx → BitVec 32) (o₀ : Dev nD → S131072x128.Idx → Elt F .f32)

/-- Each core is handed its sixteen tasks' parts, each task its own; the tasks bring back the same parts with the
    result's rows gathered. -/
def P : (K (F := F)).Pay (nD := nD) (Val := Elt F) (Name := ℕ) (U := UU) where
  st := fun q d c => match q with | 0 => bigSep Finset.univ fun s : Fin 16 => part d (tab d) (ids d) (o₀ d) (2 * s.val + c.val)
  dn := fun q d c => match q with
    | 0 => bigSep Finset.univ fun s : Fin 16 => part d (tab d) (ids d) (gathered (tab d) (ids d)) (2 * s.val + c.val)
  go := fun q d c s => match q with | 0 => part d (tab d) (ids d) (o₀ d) (2 * s.val + c.val)
  td := fun q d c s => match q with | 0 => part d (tab d) (ids d) (gathered (tab d) (ids d)) (2 * s.val + c.val)
  x := fun _ _ => iprop(emp)

instance P_storable : (P (F := F) tab ids o₀).IsStorable where
  st q d c := match q with
    | 0 => (inferInstance : BI.Storable (upEmb : UEmb _ 𝕄) (bigSep Finset.univ fun s : Fin 16 => part d (tab d) (ids d) (o₀ d) (2 * s.val + c.val)))
  dn q d c := match q with
    | 0 => (inferInstance : BI.Storable (upEmb : UEmb _ 𝕄)
      (bigSep Finset.univ fun s : Fin 16 => part d (tab d) (ids d) (gathered (tab d) (ids d)) (2 * s.val + c.val)))
  go q d c s := match q with
    | 0 => (inferInstance : BI.Storable (upEmb : UEmb _ 𝕄) (part d (tab d) (ids d) (o₀ d) (2 * s.val + c.val)))
  td q d c s := match q with
    | 0 => (inferInstance : BI.Storable (upEmb : UEmb _ 𝕄) (part d (tab d) (ids d) (gathered (tab d) (ids d)) (2 * s.val + c.val)))

/-- A core's tasks' parts are what it is handed, and what it hands back. -/
theorem vecSplit : (K (F := F)).VecSplit' (P tab ids o₀) 0 := by
  intro d c
  show (bigSep Finset.univ fun s : Fin 16 => part d (tab d) (ids d) (o₀ d) (2 * s.val + c.val)) ⊢ |={Set.univ}=> iprop(
    (bigSep Finset.univ fun s : Fin 16 => part d (tab d) (ids d) (o₀ d) (2 * s.val + c.val))
    ∗ ((bigSep Finset.univ fun s : Fin 16 => part d (tab d) (ids d) (gathered (tab d) (ids d)) (2 * s.val + c.val))
      -∗ bigSep Finset.univ fun s : Fin 16 => part d (tab d) (ids d) (gathered (tab d) (ids d)) (2 * s.val + c.val)))
  iintro H; imodintro
  isplitl [H]; · iexact H
  iintro H; iexact H

/-! ## A task from its part -/

section
variable (d : Dev nD) (L : grid1.Coords)

theorem tAll_set : (tAll).view.set = Finset.univ := by
  rw [View.set_slice_whole]
  ext x
  rw [Rect.mem_set_unit]
  simp only [Finset.mem_univ, iff_true]
  intro a
  match a with
  | ⟨0, _⟩ => exact ⟨Nat.zero_le _, (x 0).isLt⟩
  | ⟨1, _⟩ => exact ⟨Nat.zero_le _, (x 1).isLt⟩

omit [FloatOps F] [Named F] in
/-- The seven semaphores the task uses are among its own. -/
theorem ownSems0_tile : ∃ R : sProp 𝕄, (ownSems0 (thr d L) : sProp 𝕄)
      = iprop(semVal (thr d L, SemLoc.dma cc1_scratch4.sem) 0 ∗ semVal (thr d L, SemLoc.dma cc1_scratch5.sem) 0
          ∗ semVal (thr d L, SemLoc.dma cc1_scoped0.sem) 0 ∗ semVal (thr d L, SemLoc.dma cc1_scoped1.sem) 0
          ∗ semVal (thr d L, SemLoc.dma cc1_scoped2.sem) 0 ∗ semVal (thr d L, SemLoc.dma cc1_scoped3.sem) 0
          ∗ semVal (thr d L, SemLoc.dma cc1_scoped4.sem) 0 ∗ R) := by
  have own : ∀ s : SemLoc sig, s.isScoped .scVector = true → ((thr d L, s) : GSem nD τ sig) ∈ ownCells (thr d L) :=
    fun s h => (mem_ownCells (g := (thr d L, s))).mpr ⟨rfl, h⟩
  have ne : ∀ s s' : SemLoc sig, s ≠ s' → ((thr d L, s) : GSem nD τ sig) ≠ (thr d L, s') := fun s s' h e => h (congrArg Prod.snd e)
  unfold ownSems0
  rw [SparseCore.bigSep_erase' (own (SemLoc.dma cc1_scratch4.sem) (by decide)),
    SparseCore.bigSep_erase' (Finset.mem_erase.mpr ⟨ne (SemLoc.dma cc1_scratch5.sem) _ (by decide), own _ (by decide)⟩),
    SparseCore.bigSep_erase' (Finset.mem_erase.mpr ⟨ne (SemLoc.dma cc1_scoped0.sem) _ (by decide), Finset.mem_erase.mpr ⟨ne _ _ (by decide), own _ (by decide)⟩⟩),
    SparseCore.bigSep_erase' (Finset.mem_erase.mpr ⟨ne (SemLoc.dma cc1_scoped1.sem) _ (by decide), Finset.mem_erase.mpr ⟨ne _ _ (by decide),
      Finset.mem_erase.mpr ⟨ne _ _ (by decide), own _ (by decide)⟩⟩⟩),
    SparseCore.bigSep_erase' (Finset.mem_erase.mpr ⟨ne (SemLoc.dma cc1_scoped2.sem) _ (by decide), Finset.mem_erase.mpr ⟨ne _ _ (by decide),
      Finset.mem_erase.mpr ⟨ne _ _ (by decide), Finset.mem_erase.mpr ⟨ne _ _ (by decide), own _ (by decide)⟩⟩⟩⟩),
    SparseCore.bigSep_erase' (Finset.mem_erase.mpr ⟨ne (SemLoc.dma cc1_scoped3.sem) _ (by decide), Finset.mem_erase.mpr ⟨ne _ _ (by decide),
      Finset.mem_erase.mpr ⟨ne _ _ (by decide), Finset.mem_erase.mpr ⟨ne _ _ (by decide), Finset.mem_erase.mpr ⟨ne _ _ (by decide), own _ (by decide)⟩⟩⟩⟩⟩),
    SparseCore.bigSep_erase' (Finset.mem_erase.mpr ⟨ne (SemLoc.dma cc1_scoped4.sem) _ (by decide), Finset.mem_erase.mpr ⟨ne _ _ (by decide),
      Finset.mem_erase.mpr ⟨ne _ _ (by decide), Finset.mem_erase.mpr ⟨ne _ _ (by decide), Finset.mem_erase.mpr ⟨ne _ _ (by decide),
      Finset.mem_erase.mpr ⟨ne _ _ (by decide), own _ (by decide)⟩⟩⟩⟩⟩⟩)]
  exact ⟨_, rfl⟩

omit [FloatOps F] [Named F] in
/-- So are its four scratch buffers. -/
theorem ownBufs_tile : ∃ R : sProp 𝕄, (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f) ∗ R) := by
  have own : ∀ b : Ref sig .scVector, ((Proc.scVector (cV L) (jV L)).devRef b).owner = _ → (Proc.scVector (cV L) (jV L)).devRef b ∈ ownRefs (τ := τ) (Proc.scVector (cV L) (jV L)) :=
    fun b h => SparseCore.Cfg.mem_ownRefs_of_owner h
  have ne : ∀ b b' : Ref sig .scVector, b ≠ b' → (Proc.scVector (cV L) (jV L)).devRef b ≠ (Proc.scVector (cV L) (jV L)).devRef b' :=
    fun b b' h e => h (Proc.devRef_injective _ e)
  unfold ownBufs
  refine ⟨?_, (SparseCore.bigSep_erase' (own cc1_scratch0 rfl)).trans ?_⟩
  rotate_left
  rw [SparseCore.bigSep_erase' (Finset.mem_erase.mpr ⟨ne cc1_scratch1 _ (by decide), own _ rfl⟩),
    SparseCore.bigSep_erase' (Finset.mem_erase.mpr ⟨ne cc1_scratch2 _ (by decide), Finset.mem_erase.mpr ⟨ne _ _ (by decide), own _ rfl⟩⟩),
    SparseCore.bigSep_erase' (Finset.mem_erase.mpr ⟨ne cc1_scratch3 _ (by decide), Finset.mem_erase.mpr ⟨ne _ _ (by decide),
      Finset.mem_erase.mpr ⟨ne _ _ (by decide), own _ rfl⟩⟩⟩)]

/-- One task from its part and its own buffers and semaphores, to its part with its rows gathered. -/
theorem task (tab : S2048x128.Idx → Elt F .f32) (ids : S131072.Idx → BitVec 32) (o₀ : S131072x128.Idx → Elt F .f32)
    (hids : ∀ x, (ids x).toNat < 512) (O : CellTallies nD τ sig (HIx 1)) (W : Waits sig (HIx 1)) (hO : ∀ g, O g none = 0) :
    iprop(levAts (K (F := F)).L (K (F := F)).lev ∗ emp ∗ part d tab ids o₀ (tileNo L)
        ∗ scopedBufs (thr d L) ∗ scopedSems0 (thr d L) ∗ owes (thr d L) O W)
      ⊢ wp frame (wpE (defs₀ (F := F)) 𝒱₀ (thr d L) none) Set.univ
          (cc1_gather_k L tV (Memref.isWhole_whole _) iV (Memref.isWhole_whole _) oV (Memref.isWhole_whole _)
            l0 (Memref.isWhole_whole _) l1 (Memref.isWhole_whole _) r0 (Memref.isWhole_whole _) r1 (Memref.isWhole_whole _)
            cc1_scratch4 cc1_scratch5 cc1_scoped0 cc1_scoped1 cc1_scoped2 cc1_scoped3 cc1_scoped4)
          fun _ => iprop(part d tab ids (gathered tab ids) (tileNo L) ∗ scopedBufs (thr d L) ∗ scopedSems0 (thr d L)
            ∗ ∃ W', ⌜∀ p ∈ W', p ∈ W ∨ p.2 = none ∨ p.2 = some (0 : Fin 1)⌝ ∗ owes (thr d L) O W') := by
  obtain ⟨RB, hB⟩ := ownBufs_tile (F := F) d L
  obtain ⟨RS, hS⟩ := ownSems0_tile (F := F) d L
  rw [(K (F := F)).scopedBufs_V facts d (cV L) (jV L), SparseCore.Cfg.scopedSems0_V (Val := Elt F) d (cV L) (jV L), hS, hB]
  unfold part
  have hh : (tLoc d ↦{piece (tileNo L) fullShare} tab : sProp 𝕄)
      = iprop(tPts d L tab (piece (tileNo L) fullShare).left ∗ tPts d L tab (piece (tileNo L) fullShare).right) := by
    unfold tPts; rw [tAll_set]; exact pointsTo_halves _ _ _
  rw [hh]
  iintro ⟨#Hlv, -, ⟨⟨Hta, Htb⟩, Hi, Ho⟩, ⟨H0, H1, H2, H3, HRB⟩, ⟨S4, S5, C0, C1, C2, C3, C4, HRS⟩, HO⟩
  ihave Hmw := (show levAts (K (F := F)).L (K (F := F)).lev ⊢ Transfers.MayWaits (thr d L) (default : HIx 1) O from
    (K (F := F)).mayWaits_none (thr := thr d L) hO) $$ Hlv
  iapply (wp_wand_r frame _ _)
  isplitr [HRB HRS]
  · iapply (tile_run d L tab ids o₀ hids (piece (tileNo L) fullShare) (piece (tileNo L) fullShare).left (piece (tileNo L) fullShare).right O W)
    unfold free
    isplitl [Hmw]; · iexact Hmw
    isplitl [Hi]; · iexact Hi
    isplitl [Ho]; · iexact Ho
    isplitl [Hta H0 H2 S4]
    · isplitl [H2]; · rw [View.set_whole]; iexact H2
      isplitl [H0]; · rw [View.set_whole]; iexact H0
      isplitl [Hta]; · iexact Hta
      iexact S4
    isplitl [Htb H1 H3 S5]
    · isplitl [H3]; · rw [View.set_whole]; iexact H3
      isplitl [H1]; · rw [View.set_whole]; iexact H1
      isplitl [Htb]; · iexact Htb
      iexact S5
    isplitl [C0]; · iexact C0
    isplitl [C1]; · iexact C1
    isplitl [C2]; · iexact C2
    isplitl [C3]; · iexact C3
    isplitl [C4]; · iexact C4
    iexact HO
  unfold free
  iintro %_ ⟨Hi, Ho, ⟨H2, H0, Hta, S4⟩, ⟨H3, H1, Htb, S5⟩, C0, C1, C2, C3, C4, %W', %hW', HO⟩
  isplitl [Hi Ho Hta Htb]
  · isplitl [Hta Htb]
    · isplitl [Hta]; · iexact Hta
      iexact Htb
    isplitl [Hi]; · iexact Hi
    iexact Ho
  isplitl [H0 H1 H2 H3 HRB]
  · rw [View.set_whole, View.set_whole, View.set_whole, View.set_whole]
    isplitl [H0]; · iexact H0
    isplitl [H1]; · iexact H1
    isplitl [H2]; · iexact H2
    isplitl [H3]; · iexact H3
    iexact HRB
  isplitl [S4 S5 C0 C1 C2 C3 C4 HRS]
  · isplitl [S4]; · iexact S4
    isplitl [S5]; · iexact S5
    isplitl [C0]; · iexact C0
    isplitl [C1]; · iexact C1
    isplitl [C2]; · iexact C2
    isplitl [C3]; · iexact C3
    isplitl [C4]; · iexact C4
    iexact HRS
  iexists W'; isplitr
  · ipureintro; exact fun p hp => (hW' p hp).imp_right Or.inl
  iexact HO
end

/-- Core `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1_gather_k (coordsV c s) tV (Memref.isWhole_whole _) iV (Memref.isWhole_whole _) oV (Memref.isWhole_whole _)
            l0 (Memref.isWhole_whole _) l1 (Memref.isWhole_whole _) r0 (Memref.isWhole_whole _) r1 (Memref.isWhole_whole _)
            cc1_scratch4 cc1_scratch5 cc1_scoped0 cc1_scoped1 cc1_scoped2 cc1_scoped3 cc1_scoped4) ⟨⟩ c s := rfl

/-- Every task of the call meets its obligation. -/
theorem tileObl (hids : ∀ d x, (ids d x).toNat < 512) : (K (F := F)).TileObl (D (F := F)) 𝒱 (P tab ids o₀) v₀ 0 := by
  intro d c i O W hO _ _
  simp only [show (P (F := F) tab ids o₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact task d (coordsV ⟨_, hci.1⟩ ⟨_, hci.2⟩) (tab d) (ids d) (o₀ d) (hids d) O W hO

end Cert.KernelIdeal.Run

end
-- ==== Proof.KI.Main.lean ====
/-
  @main on the TensorCore: the host operations, the two calls of its own and the SparseCores' one.
-/
module

public import proofs.«01_k».proof.Proof.KI.Vals
public import proofs.«01_k».proof.Proof.KI.Sc

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

variable (m : (ℓ : Loc nD τ sig) → Buf (Elt F) ℓ) (ρ : Dev nD → PrngReg)

/-- @main as its four lines of host operations around its three calls. -/
theorem main_parts (d : Dev nD) : main (F := F) d
    = StableHlo.seq ops1 >>= fun _ => Prog.lift (.customCall (SparseCore.inner (Pipeline.entry 0)) ()) >>= fun _ =>
      StableHlo.seq ops2 >>= fun _ => (K (F := F)).run d 0 >>= fun _ => StableHlo.seq ops3 >>= fun _ =>
      Prog.lift (.customCall (SparseCore.inner (Pipeline.entry 1)) ()) >>= fun _ => StableHlo.seq ops4 := rfl

/-- The calls' staging cells are distinct. -/
theorem phinj : Function.Injective (Pipeline.cellOf (nD := nD) (τ := τ) (Pipeline.pin (pcfgs (F := F)) adm)) := cellOf_inj

/-- What the launch gives the TensorCore for its two calls: the state of their staging cells. -/
def G (d : Dev nD) : sProp 𝕄 :=
  bigSep Finset.univ fun p : Fin 2 => iprop(Pipeline.cellsGhost (Pipeline.pin (pcfgs (F := F)) adm) EP p d ∗ Pipeline.toksInit (Pipeline.pin (pcfgs (F := F)) adm) EP p d)

theorem G_eq (d : Dev nD) : (G (F := F) d : sProp 𝕄)
    = iprop((Pipeline.cellsGhost (Pipeline.pin (pcfgs (F := F)) adm) EP (0 : Fin 2) d ∗ Pipeline.toksInit (Pipeline.pin (pcfgs (F := F)) adm) EP (0 : Fin 2) d)
      ∗ (Pipeline.cellsGhost (Pipeline.pin (pcfgs (F := F)) adm) EP (1 : Fin 2) d ∗ Pipeline.toksInit (Pipeline.pin (pcfgs (F := F)) adm) EP (1 : Fin 2) d)) := by
  unfold G
  rw [show (Finset.univ : Finset (Fin 2)) = {0, 1} by decide, SparseCore.bigSep_insert' (by decide), bigSep_singleton]

/-- A TensorCore call of @main: its region, run from the boundary and its thread state. -/
theorem call_step [∀ e, Nonempty (Elt F e)] {p : Fin 2}
    (R : Pipeline.RegionSeg (pcfgs (F := F)) adm (pd m) (none : HIx 1) defs₀ 𝒱₀ (K (F := F)).L (K (F := F)).lev p) (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Pipeline.entry p)) ())) Q := by
  have h1 := (K (F := F)).wp_liftProg (D (F := F)) 𝒱 (SparseCore.T d) Set.univ none
    (.op (.customCall (Pipeline.entry p) ()) fun u => .ret u) Q
  have h2 := Pipeline.RegionSeg.wp (pcfgs (F := F)) adm (pd m) none phinj EP defs₀ 𝒱₀ (K (F := F)).L (K (F := F)).lev R d none
    (fun u hu => nomatch hu) (fun u => .ret u) Q
  refine BI.Entails.trans ?_ (h2.trans h1)
  refine (show iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ iprop((iprop(boundary (d.tc : Thread nD τ) ∗ R.post d) -∗ wp frame (wpE (Pipeline.defs (pcfgs (F := F)) defs₀) (𝒱₀.lift) (d.tc : Thread nD τ) none) Set.univ (.ret ⟨⟩) Q)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) from ?_)
  iintro ⟨Hk, Hrest⟩
  isplitl [Hk]
  · iintro H
    rw [wp_ret]
    imodintro
    iapply Hk; iexact H
  iexact Hrest

/-! ## The buffers as the operations and the gather take them -/

omit [FloatOps F] [Named F] in
theorem mem_uc (b : Ref sig .tc) (h : b.isScoped = false) : dr b ∈ ucRefs :=
  Finset.mem_filter.mpr ⟨StableHlo.devRef_mem_tcRefs b, by rw [show (dr b).isScoped = b.isScoped from rfl, h]; decide⟩
omit [FloatOps F] [Named F] in
theorem uc_pair (a b : Ref sig .tc) (ha : a.isScoped = false) (hb : b.isScoped = false) : ({dr a, dr b} : Finset (DevRef τ sig)) ⊆ ucRefs :=
  Finset.insert_subset (mem_uc a ha) (Finset.singleton_subset_iff.mpr (mem_uc b hb))

theorem ops1_uc : ∀ op ∈ (ops1 : List (HloOp τ sig (Elt F))), op.bufs ⊆ ucRefs :=
  List.forall_mem_cons.mpr ⟨uc_pair main_arg0 main_v0 rfl rfl, List.forall_mem_cons.mpr ⟨uc_pair main_arg9 main_v1 rfl rfl,
    List.forall_mem_cons.mpr ⟨uc_pair main_arg11 main_v2 rfl rfl, fun _ h => nomatch h⟩⟩⟩
theorem ops2_uc : ∀ op ∈ (ops2 : List (HloOp τ sig (Elt F))), op.bufs ⊆ ucRefs :=
  List.forall_mem_cons.mpr ⟨uc_pair main_arg3 main_v4 rfl rfl, List.forall_mem_cons.mpr ⟨uc_pair main_arg5 main_v5 rfl rfl,
    List.forall_mem_cons.mpr ⟨uc_pair main_arg6 main_v6 rfl rfl, List.forall_mem_cons.mpr ⟨uc_pair main_arg4 main_v7 rfl rfl, fun _ h => nomatch h⟩⟩⟩⟩
theorem ops3_uc : ∀ op ∈ (ops3 : List (HloOp τ sig (Elt F))), op.bufs ⊆ ucRefs :=
  List.forall_mem_cons.mpr ⟨uc_pair main_arg1 main_v9 rfl rfl, List.forall_mem_cons.mpr ⟨uc_pair main_arg2 main_v10 rfl rfl,
    List.forall_mem_cons.mpr ⟨uc_pair main_arg7 main_v11 rfl rfl, fun _ h => nomatch h⟩⟩⟩
theorem ops4_uc : ∀ op ∈ (ops4 : List (HloOp τ sig (Elt F))), op.bufs ⊆ ucRefs :=
  List.forall_mem_cons.mpr ⟨uc_pair main_v12_0 main_v13 rfl rfl, List.forall_mem_cons.mpr ⟨uc_pair main_v12_1 main_v14 rfl rfl, fun _ h => nomatch h⟩⟩

theorem ops1_fresh : ∀ op ∈ (ops1 : List (HloOp τ sig (Elt F))), op.fresh = ∅ :=
  List.forall_mem_cons.mpr ⟨rfl, List.forall_mem_cons.mpr ⟨rfl, List.forall_mem_cons.mpr ⟨rfl, fun _ h => nomatch h⟩⟩⟩
theorem ops2_fresh : ∀ op ∈ (ops2 : List (HloOp τ sig (Elt F))), op.fresh = ∅ :=
  List.forall_mem_cons.mpr ⟨rfl, List.forall_mem_cons.mpr ⟨rfl, List.forall_mem_cons.mpr ⟨rfl, List.forall_mem_cons.mpr ⟨rfl, fun _ h => nomatch h⟩⟩⟩⟩
theorem ops3_fresh : ∀ op ∈ (ops3 : List (HloOp τ sig (Elt F))), op.fresh = ∅ :=
  List.forall_mem_cons.mpr ⟨rfl, List.forall_mem_cons.mpr ⟨rfl, List.forall_mem_cons.mpr ⟨rfl, fun _ h => nomatch h⟩⟩⟩
theorem ops4_fresh : ∀ op ∈ (ops4 : List (HloOp τ sig (Elt F))), op.fresh = ∅ :=
  List.forall_mem_cons.mpr ⟨rfl, List.forall_mem_cons.mpr ⟨rfl, fun _ h => nomatch h⟩⟩

/-- The gather's three buffers. -/
def scRefs : Finset (DevRef τ sig) := {dr main_v3, dr main_v7, dr main_v8}

omit [FloatOps F] [Named F] in
theorem scRefs_sub : scRefs ⊆ ucRefs :=
  Finset.insert_subset (mem_uc main_v3 rfl) (uc_pair main_v7 main_v8 rfl rfl)

omit [FloatOps F] [Named F] in
theorem held_sc (d : Dev nD) (V : Valuation τ sig (Elt F)) :
    (StableHlo.held (d.tc : Thread nD τ) scRefs V : sProp 𝕄)
      = iprop((tLoc d ↦{fullShare} V main_v3) ∗ (iLoc d ↦{fullShare} V main_v7) ∗ oLoc d ↦{fullShare} V main_v8) := by
  unfold StableHlo.held scRefs
  rw [SparseCore.bigSep_insert' (by
      rw [Finset.mem_insert, Finset.mem_singleton]
      rintro (h | h)
      · exact dr_ne (by decide : main_v3 ≠ main_v7) h
      · exact dr_ne (by decide : main_v3 ≠ main_v8) h),
    SparseCore.bigSep_insert' (by rw [Finset.mem_singleton]; exact dr_ne (by decide : main_v7 ≠ main_v8)), bigSep_singleton]

/-- The buffers before the gather, as the tasks take them: their parts, and what no task takes. -/
theorem before_gather (d : Dev nD) :
    (StableHlo.held (d.tc : Thread nD τ) ucRefs (A2 m d) : sProp 𝕄)
      = iprop(((bigSep Finset.univ fun c : Fin 2 => bigSep Finset.univ fun s : Fin 16 =>
            part d (A2 m d main_v3) (A2 m d main_v7) (A2 m d main_v8) (2 * s.val + c.val))
          ∗ (tLoc d ↦{remains 32 fullShare} A2 m d main_v3) ∗ iLoc d ↦{remains 32 fullShare} A2 m d main_v7)
        ∗ StableHlo.held (d.tc : Thread nD τ) (ucRefs \ scRefs) (A2 m d)) := by
  rw [StableHlo.held_sub_split (d.tc : Thread nD τ) scRefs_sub, held_sc, parts_eq]

/-- After it. -/
theorem after_gather (d : Dev nD) :
    (StableHlo.held (d.tc : Thread nD τ) ucRefs (B2 m d) : sProp 𝕄)
      = iprop(((bigSep Finset.univ fun c : Fin 2 => bigSep Finset.univ fun s : Fin 16 =>
            part d (A2 m d main_v3) (A2 m d main_v7) (gathered (A2 m d main_v3) (A2 m d main_v7)) (2 * s.val + c.val))
          ∗ (tLoc d ↦{remains 32 fullShare} A2 m d main_v3) ∗ iLoc d ↦{remains 32 fullShare} A2 m d main_v7)
        ∗ StableHlo.held (d.tc : Thread nD τ) (ucRefs \ scRefs) (A2 m d)) := by
  rw [StableHlo.held_sub_split (d.tc : Thread nD τ) scRefs_sub, held_sc, B2_ne m d main_v3 (by decide), B2_ne m d main_v7 (by decide), B2_self, parts_eq]
  have hrest : (StableHlo.held (d.tc : Thread nD τ) (ucRefs \ scRefs) (B2 m d) : sProp 𝕄) = StableHlo.held (d.tc : Thread nD τ) (ucRefs \ scRefs) (A2 m d) := by
    unfold StableHlo.held
    refine bigSep_congr fun b hb => ?_
    rw [show B2 m d b = A2 m d b from Function.update_of_ne (fun e => (Finset.mem_sdiff.mp hb).2 (by
      rw [e]; exact Finset.mem_insert_of_mem (Finset.mem_insert_of_mem (Finset.mem_singleton_self _)))) _ _]
  rw [hrest]

/-- What the TensorCore holds of the handshakes apart from what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some ((inferInstance : SparseCore.Cfg.Blocks 1 1).last q)) 1)))

theorem tcSt_eq (d : Dev nD) (n : ℕ) (hn : n = 0 ∨ n = 1) : ((K (F := F)).tcSt EH d n : sProp 𝕄)
    = iprop((∃ w, ⌜(K (F := F)).WBelow (T d) w (8 * n)⌝ ∗ owes (d : Thread nD τ) ((K (F := F)).Otc d n) w) ∗ tcTail d n) := by
  unfold SparseCore.Cfg.tcSt tcTail
  rcases hn with rfl | rfl <;> rfl

/-! ## @main -/

/-- The SparseCore call's payloads, of the launch memory. -/
abbrev PP : (K (F := F)).Pay (nD := nD) (Val := Elt F) (Name := ℕ) (U := UU) :=
  P (fun d => A2 m d main_v3) (fun d => A2 m d main_v7) (fun d => A2 m d main_v8)

set_option backward.isDefEq.respectTransparency.types false in
set_option maxHeartbeats 1000000 in
/-- @main on device `d`'s TensorCore: from the launch memory to every buffer at its contents at the end. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ StableHlo.held (d.tc : Thread nD τ) ucRefs (A4 m d) ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) ucRefs (StableHlo.launchContents m d)
      from unscoped_held d (StableHlo.launchContents m d), main_parts, tcSt_eq d 0 (Or.inl rfl), tcSt_eq d 1 (Or.inr rfl), G_eq]
  iintro ⟨#Hctx, ⟨HO, Htail⟩, ⟨Hb, Hub, Hts, -⟩, ⟨⟨HG0, HT0⟩, ⟨HG1, HT1⟩⟩⟩
  ihave #Hlev := (SparseCore.Cfg.ctx_levAts (K := K (F := F)) (EH := EH) (P := PP m) κ) $$ Hctx
  iapply (StableHlo.wp_seq 𝒱 none Set.univ d ucRefs _ ops1 ops1_uc ops1_fresh (StableHlo.launchContents m d)) $$ [Hb Hub]
  · isplitl [Hb] <;> iassumption
  iintro ⟨Hb, Hub⟩
  rw [wp_bind]
  iapply (call_step m (region1 m) d _)
  isplitl [Htail Hts HG1 HT1]
  · iintro ⟨Hb, Hpost⟩
    ihave Hpost := (show (region1 m).post d ⊢ iprop((StableHlo.held (d.tc : Thread nD τ) ucRefs (B1 m d))
        ∗ ∃ w, ⌜(K (F := F)).WBelow (T d) w (8 * 0)⌝ ∗ owes (d : Thread nD τ) ((K (F := F)).Otc d 0) w) from
      Entails.of_eq (by rw [← unscoped_held]; rfl)) $$ Hpost
    icases Hpost with ⟨Hub, HO⟩
    iapply (StableHlo.wp_seq 𝒱 none Set.univ d ucRefs _ ops2 ops2_uc ops2_fresh (B1 m d)) $$ [Hb Hub]
    · isplitl [Hb] <;> iassumption
    iintro ⟨Hb, Hub⟩
    ihave Hub := (Entails.of_eq ((congrArg (StableHlo.held (d.tc : Thread nD τ) ucRefs) (show StableHlo.after ops2 (B1 m d) = A2 m d from rfl)).trans (before_gather m d))) $$ Hub
    icases Hub with ⟨⟨Hparts, Ht, Hi⟩, Hrest⟩
    rw [wp_bind]
    iapply ((K (F := F)).wp_run (D (F := F)) 𝒱 (EH := EH) (P := PP m) κ d 0)
    isplitr; · iexact Hctx
    isplitl [HO Htail]
    · iapply (Entails.of_eq (tcSt_eq d 0 (Or.inl rfl)).symm)
      isplitl [HO] <;> iassumption
    isplitl [Hparts]; · iexact Hparts
    iintro ⟨Hst, Hparts⟩
    ihave Hst := (show (K (F := F)).tcSt EH d ((0 : Fin 1).val + 1) ⊢ _ from Entails.of_eq (tcSt_eq (F := F) d 1 (Or.inr rfl))) $$ Hst
    icases Hst with ⟨HO, Htail⟩
    ihave Hub := (Entails.of_eq (after_gather m d).symm) $$ [Hparts Ht Hi Hrest]
    · isplitr [Hrest]
      · isplitl [Hparts]; · iexact Hparts
        isplitl [Ht] <;> iassumption
      iexact Hrest
    iapply (StableHlo.wp_seq 𝒱 none Set.univ d ucRefs _ ops3 ops3_uc ops3_fresh (B2 m d)) $$ [Hb Hub]
    · isplitl [Hb] <;> iassumption
    iintro ⟨Hb, Hub⟩
    rw [wp_bind]
    iapply (call_step m (region3 m) d _)
    isplitl [Htail Hts]
    · iintro ⟨Hb, Hpost⟩
      ihave Hpost := (show (region3 m).post d ⊢ iprop((StableHlo.held (d.tc : Thread nD τ) ucRefs (B3 m d))
          ∗ ∃ w, ⌜(K (F := F)).WBelow (T d) w (8 * 1)⌝ ∗ owes (d : Thread nD τ) ((K (F := F)).Otc d 1) w) from
        Entails.of_eq (by rw [← unscoped_held]; rfl)) $$ Hpost
      icases Hpost with ⟨Hub, HO⟩
      rw [← bind_pure (StableHlo.seq ops4)]
      iapply (StableHlo.wp_seq 𝒱 none Set.univ d ucRefs _ ops4 ops4_uc ops4_fresh (B3 m d)) $$ [Hb Hub]
      · isplitl [Hb] <;> iassumption
      iintro ⟨Hb, Hub⟩
      rw [wp_pure]
      imodintro
      isplitl [HO Htail]
      · isplitl [HO] <;> iassumption
      isplitl [Hub]; · iexact Hub
      isplitl [Hb] <;> iassumption
    isplitl [Hb]; · iexact Hb
    isplitl [Hub HO]
    · iapply (show iprop((StableHlo.held (d.tc : Thread nD τ) ucRefs (A3 m d))
          ∗ ∃ w, ⌜(K (F := F)).WBelow (T d) w (8 * 1)⌝ ∗ owes (d : Thread nD τ) ((K (F := F)).Otc d 1) w) ⊢ (region3 m).pre d from
        Entails.of_eq (by rw [← unscoped_held]; rfl))
      isplitl [Hub]; · iexact Hub
      iexact HO
    isplitr; · iexact Hlev
    isplitl [HG1] <;> iassumption
  isplitl [Hb]; · iexact Hb
  isplitl [Hub HO]
  · iapply (show iprop((StableHlo.held (d.tc : Thread nD τ) ucRefs (A1 m d))
        ∗ ∃ w, ⌜(K (F := F)).WBelow (T d) w (8 * 0)⌝ ∗ owes (d : Thread nD τ) ((K (F := F)).Otc d 0) w) ⊢ (region1 m).pre d from
      Entails.of_eq (by rw [← unscoped_held]; rfl))
    isplitl [Hub]; · iexact Hub
    iexact HO
  isplitr; · iexact Hlev
  isplitl [HG0] <;> iassumption

end Cert.KernelIdeal.Run

end
-- ==== Proof.KI.Launch.lean ====
/-
  The launch: the program run to its end on every thread, from any memory whose row numbers are below 512.
-/
module

public import proofs.«01_k».proof.Proof.KI.Main

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

variable (m : (ℓ : Loc nD τ sig) → Buf (Elt F) ℓ) (ρ : Dev nD → PrngReg)

/-- The ghost state at launch: the SparseCore launch's handshakes and the two calls' staging cells. -/
def u₀ : UU :=
  (initOf (K (F := F)).hsCells (K (F := F)).hsToks,
    (initOf (Pipeline.cells (Pipeline.pin (pcfgs (F := F)) adm) phinj) (Pipeline.launchToks (Pipeline.pin (pcfgs (F := F)) adm) phinj), 1))

theorem x_emp [∀ e, Nonempty (Elt F e)] : (bigSep Finset.univ fun thr : Thread nD τ => bigSep Finset.univ fun q : Fin 1 => (PP m).x q thr : sProp 𝕄) = iprop(emp) := by
  rw [bigSep_congr fun _ _ => bigSep_univ_of_subsingleton (0 : Fin 1)]
  exact bigSep_emp_const _

/-- The launch's ghost state pays out what the launch and @main's calls start from. -/
theorem fund [∀ e, Nonempty (Elt F e)] : (ownU (u₀ (F := F)) : sProp 𝕄)
    ⊢ |={Set.univ}=> iprop(BI.own (EH (initOf (K (F := F)).hsCells (K (F := F)).hsToks)) ∗ bigSep Finset.univ (G (F := F))
      ∗ bigSep Finset.univ fun thr : Thread nD τ => bigSep Finset.univ fun q : Fin 1 => (PP m).x q thr) := by
  rw [x_emp]; unfold u₀
  iintro Hu
  ihave Hu := (ownU_pair _ _) $$ Hu
  icases Hu with ⟨HH, HR⟩
  ihave HR := (own_pair_emb embR _ _) $$ HR
  icases HR with ⟨HP, -⟩
  ihave HP := (show BI.own (((Emb.inl : Emb UP (UP × Counters)).trans embR) (initOf (Pipeline.cells (Pipeline.pin (pcfgs (F := F)) adm) phinj) (Pipeline.launchToks (Pipeline.pin (pcfgs (F := F)) adm) phinj)))
    ⊢ BI.own ((EP : Emb UP 𝕄) (initOf (Pipeline.cells (Pipeline.pin (pcfgs (F := F)) adm) phinj) (Pipeline.launchToks (Pipeline.pin (pcfgs (F := F)) adm) phinj))) from Entails.of_eq rfl) $$ HP
  imod (Pipeline.fund_ghost (Pipeline.pin (pcfgs (F := F)) adm) EP phinj) $$ HP with ⟨Hg, Ht⟩
  imodintro
  isplitl [HH]; · iexact HH
  isplitl [Hg Ht]
  · unfold G
    simp only [bigSep_sep']
    isplitl [Hg] <;> iassumption

  iempintro

/-- At the end the memory holds what @main left. -/
theorem fin_agree (d : Dev nD) (s' : Phys nD τ sig (Elt F)) :
    iprop(StableHlo.held (d.tc : Thread nD τ) ucRefs (A4 m d) ∗ SI s') ⊢ (⌜∀ b ∈ ucRefs, s'.mem.mem (d, b) = A4 m d b⌝ : sProp 𝕄) := by
  iintro ⟨H, HS⟩
  iapply (SI_pointsTo_bufs_agree (qs := fun _ => fullShare) ucRefs)
  isplitl [HS]; · iexact HS
  unfold StableHlo.held
  iexact H

/-- The whole program: it ends with every buffer at `A4` and every semaphore at zero. -/
theorem run_main [∀ e, Nonempty (Elt F e)] (hids : ∀ d x, (show BitVec 32 from A2 m d main_v7 x).toNat < 512) :
    θ_run ((K (F := F)).defs (D (F := F))) ((K (F := F)).threads main) ⟨m, fun _ => 0, ρ⟩
      fun r => (∀ d, ∀ b ∈ ucRefs, r.2.mem (d, b) = A4 m d b) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ hids)
    (fun q _ => match q with | 0 => SparseCore.Cfg.VecSplit.of_plain (vecSplit _ _ _))
    m ρ main G (fun d => StableHlo.held (d.tc : Thread nD τ) ucRefs (A4 m d)) u₀ (sep_elim_left.trans (fund m)) (hmain m ρ)
    (fun d s' => ∀ b ∈ ucRefs, s'.mem.mem (d, b) = A4 m d b) (fin_agree m) _ (fun _ h hz => ⟨h, hz⟩)

end Cert.KernelIdeal.Run

end
-- ==== Proof.KI.Ends.lean ====
/-
  The contents at the end: the arguments as they were, the two results of the last call's outputs; and the row numbers' range.
-/
module

public import proofs.«01_k».proof.Proof.KI.Launch
public import proofs.«01_k».proof.Pre_in_range
public import Idealize.ShloMosaic.Lib.ReduceAll
public import Idealize.ShloMosaic.Lib.WordCmp

@[expose] public section

set_option maxRecDepth 16384

noncomputable section

namespace Cert.KernelIdeal.Run

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MM F

variable (m : (ℓ : Loc nD τ sig) → Buf (Elt F) ℓ) (ρ : Dev nD → PrngReg)

/-! ## What each line of host operations computes -/

/-- Array `b` holds throughout what it held at launch. -/
def Kept (d : Dev nD) (b : Ref sig .tc) : Prop :=
  A1 m d b = m ((d.tc : Thread nD τ).loc b) ∧ B1 m d b = m ((d.tc : Thread nD τ).loc b) ∧ B2 m d b = m ((d.tc : Thread nD τ).loc b)
    ∧ A4 m d b = m ((d.tc : Thread nD τ).loc b)

/-- An array that no line of host operations and no call writes holds at the end what it held at launch. -/
theorem A_kept (d : Dev nD) (b : Ref sig .tc)
    (h1 : StableHlo.after ops1 (StableHlo.launchContents m d) (dr b) = m ((d.tc : Thread nD τ).loc b))
    (h2 : StableHlo.after ops2 (B1 m d) (dr b) = B1 m d b)
    (h3 : StableHlo.after ops3 (B2 m d) (dr b) = B2 m d b)
    (h4 : StableHlo.after ops4 (B3 m d) (dr b) = B3 m d b)
    (n3 : b ≠ main_v3) (n8 : b ≠ main_v8) (n0 : b ≠ main_v12_0) (n1 : b ≠ main_v12_1) :
    Kept m d b := by
  have e1 : A1 m d b = m ((d.tc : Thread nD τ).loc b) := h1
  have e2 : B1 m d b = m ((d.tc : Thread nD τ).loc b) := (B1_ne m d b n3).trans e1
  have e3 : B2 m d b = m ((d.tc : Thread nD τ).loc b) := (B2_ne m d b n8).trans (h2.trans e2)
  exact ⟨e1, e2, e3, h4.trans ((B3_ne m d b n0 n1).trans (h3.trans e3))⟩

theorem kept0 (d : Dev nD) : Kept m d main_arg0 := A_kept m d main_arg0 (by after_results_simp) (by after_results_simp) (by after_results_simp) (by after_results_simp)
  (by decide) (by decide) (by decide) (by decide)
theorem kept1 (d : Dev nD) : Kept m d main_arg1 := A_kept m d main_arg1 (by after_results_simp) (by after_results_simp) (by after_results_simp) (by after_results_simp)
  (by decide) (by decide) (by decide) (by decide)
theorem kept2 (d : Dev nD) : Kept m d main_arg2 := A_kept m d main_arg2 (by after_results_simp) (by after_results_simp) (by after_results_simp) (by after_results_simp)
  (by decide) (by decide) (by decide) (by decide)
theorem kept3 (d : Dev nD) : Kept m d main_arg3 := A_kept m d main_arg3 (by after_results_simp) (by after_results_simp) (by after_results_simp) (by after_results_simp)
  (by decide) (by decide) (by decide) (by decide)
theorem kept4 (d : Dev nD) : Kept m d main_arg4 := A_kept m d main_arg4 (by after_results_simp) (by after_results_simp) (by after_results_simp) (by after_results_simp)
  (by decide) (by decide) (by decide) (by decide)
theorem kept5 (d : Dev nD) : Kept m d main_arg5 := A_kept m d main_arg5 (by after_results_simp) (by after_results_simp) (by after_results_simp) (by after_results_simp)
  (by decide) (by decide) (by decide) (by decide)
theorem kept6 (d : Dev nD) : Kept m d main_arg6 := A_kept m d main_arg6 (by after_results_simp) (by after_results_simp) (by after_results_simp) (by after_results_simp)
  (by decide) (by decide) (by decide) (by decide)
theorem kept7 (d : Dev nD) : Kept m d main_arg7 := A_kept m d main_arg7 (by after_results_simp) (by after_results_simp) (by after_results_simp) (by after_results_simp)
  (by decide) (by decide) (by decide) (by decide)
theorem kept8 (d : Dev nD) : Kept m d main_arg8 := A_kept m d main_arg8 (by after_results_simp) (by after_results_simp) (by after_results_simp) (by after_results_simp)
  (by decide) (by decide) (by decide) (by decide)
theorem kept9 (d : Dev nD) : Kept m d main_arg9 := A_kept m d main_arg9 (by after_results_simp) (by after_results_simp) (by after_results_simp) (by after_results_simp)
  (by decide) (by decide) (by decide) (by decide)
theorem kept10 (d : Dev nD) : Kept m d main_arg10 := A_kept m d main_arg10 (by after_results_simp) (by after_results_simp) (by after_results_simp) (by after_results_simp)
  (by decide) (by decide) (by decide) (by decide)
theorem kept11 (d : Dev nD) : Kept m d main_arg11 := A_kept m d main_arg11 (by after_results_simp) (by after_results_simp) (by after_results_simp) (by after_results_simp)
  (by decide) (by decide) (by decide) (by decide)

/-- The row numbers the gather reads. -/
theorem A2_v7 (d : Dev nD) : A2 m d main_v7 = shapeCast S131072 (m ((d.tc : Thread nD τ).loc main_arg4)) shapeCasts_S4x512x64_S131072 := by
  rw [← (kept4 m d).2.1]
  show StableHlo.after ops2 (B1 m d) (dr main_v7) = _
  after_results_simp
  rfl

/-- The two results at the end, of the last call's outputs. -/
theorem A4_v13 (d : Dev nD) : A4 m d main_v13 = shapeCast S4x512x128 (fuseAOut (A3 m d)) shapeCasts_S2048x128_S4x512x128 := by
  rw [← B3_0]
  show StableHlo.after ops4 (B3 m d) (dr main_v13) = _
  after_results_simp
  rfl
theorem A4_v14 (d : Dev nD) : A4 m d main_v14 = shapeCast S4x512x64x128 (fusePOut (A3 m d)) shapeCasts_S131072x128_S4x512x64x128 := by
  rw [← B3_1]
  show StableHlo.after ops4 (B3 m d) (dr main_v14) = _
  after_results_simp
  rfl

/-! ## The precondition -/

/-- Under the precondition every row number is below 512. -/
theorem rows_lt [Cert.Pre_in_range.Facts] {G : FTy → Type} [FloatOps G] (x0 x1 x2 x3 x4 x5 x6 x7 x8 x9 x10 x11)
    (h : Cert.Pre_in_range.fn (F := G) x0 x1 x2 x3 x4 x5 x6 x7 x8 x9 x10 x11 = fun _ => 1#1) (i : Cert.Pre_in_range.S4x512x64.Idx) : (x4 i).toNat < 512 := by
  have e : IntOp.andi (IntOp.cmpi .sge (x4 i) 0#32) (IntOp.cmpi .slt (x4 i) 512#32) = 1#1 :=
    haveI : Subsingleton Cert.Pre_in_range.S_.Idx := ⟨fun a b => funext fun k => k.elim0⟩
    Host.reduce_andi_all _ _ _ _ (fun k => k.elim0) (congrFun h fun k => k.elim0) i
  exact (show _ ↔ (x4 i).toNat < 512 by word_cmp).1 e

/-- So every row number the gather reads is. -/
theorem ids_lt [Cert.Pre_in_range.Facts] {G : FTy → Type} [FloatOps G] (x0 x1 x2 x3 x5 x6 x7 x8 x9 x10 x11 : Dev nD → _)
    (h : ∀ c : Dev nD, Cert.Pre_in_range.fn (F := G) (x0 c) (x1 c) (x2 c) (x3 c) (m ((c.tc : Thread nD τ).loc main_arg4)) (x5 c) (x6 c) (x7 c) (x8 c) (x9 c) (x10 c) (x11 c) = fun _ => 1#1) :
    ∀ d x, (show BitVec 32 from A2 m d main_v7 x).toNat < 512 := by
  intro d x
  rw [A2_v7]
  exact rows_lt _ _ _ _ _ _ _ _ _ _ _ _ (h d) _

/-! ## The run -/

/-- The whole program leaves the two results of the last call's outputs, the arguments as they were, and every semaphore at zero. -/
theorem run_ends [∀ e, Nonempty (Elt F e)] (hids : ∀ d x, (show BitVec 32 from A2 m d main_v7 x).toNat < 512) :
    θ_run (defs (F := F)) (threads (F := F)) ⟨m, fun _ => 0, ρ⟩ fun r => (∀ c : Dev nD,
      r.2.mem ((c.tc : Thread nD τ).loc main_v13) = shapeCast S4x512x128 (fuseAOut (A3 m c)) shapeCasts_S2048x128_S4x512x128
      ∧ r.2.mem ((c.tc : Thread nD τ).loc main_v14) = shapeCast S4x512x64x128 (fusePOut (A3 m c)) shapeCasts_S131072x128_S4x512x64x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0 :=
  (θ_run (defs (F := F)) _ _).mono (fun _ h => ⟨fun c => ⟨(h.1 c _ (mem_uc main_v13 rfl)).trans (A4_v13 m c), (h.1 c _ (mem_uc main_v14 rfl)).trans (A4_v14 m c),
    (h.1 c _ (mem_uc main_arg0 rfl)).trans (kept0 m c).2.2.2,
    (h.1 c _ (mem_uc main_arg1 rfl)).trans (kept1 m c).2.2.2,
    (h.1 c _ (mem_uc main_arg2 rfl)).trans (kept2 m c).2.2.2,
    (h.1 c _ (mem_uc main_arg3 rfl)).trans (kept3 m c).2.2.2,
    (h.1 c _ (mem_uc main_arg4 rfl)).trans (kept4 m c).2.2.2,
    (h.1 c _ (mem_uc main_arg5 rfl)).trans (kept5 m c).2.2.2,
    (h.1 c _ (mem_uc main_arg6 rfl)).trans (kept6 m c).2.2.2,
    (h.1 c _ (mem_uc main_arg7 rfl)).trans (kept7 m c).2.2.2,
    (h.1 c _ (mem_uc main_arg8 rfl)).trans (kept8 m c).2.2.2,
    (h.1 c _ (mem_uc main_arg9 rfl)).trans (kept9 m c).2.2.2,
    (h.1 c _ (mem_uc main_arg10 rfl)).trans (kept10 m c).2.2.2,
    (h.1 c _ (mem_uc main_arg11 rfl)).trans (kept11 m c).2.2.2⟩, h.2⟩) (run_main m ρ hids)

end Cert.KernelIdeal.Run

end
-- ==== Proof.V.RefParts.lean ====
/-
  The reference's results by their parts.
-/
module

public import proofs.«01_k».proof.Proof.Gen.ReferenceIdeal.Run
public import Idealize.ShloMosaic.Lib.Pointwise
public import Idealize.ShloMosaic.Lib.Pipeline.Value

@[expose] public section

set_option maxRecDepth 16384

noncomputable section

namespace Cert.ReferenceIdeal.Val

open Cert.ReferenceIdeal Cert.ReferenceIdeal.Gen
open Idealize.ShloMosaic Idealize.ShloMosaic.TcCoe

/-- The hidden layer before its activation. -/
def linR (a : FVec Ideal S4x512x128 .f32) (W1 : FVec Ideal S128x128 .f32) (b1 : FVec Ideal S128 .f32) : FVec Ideal S4x512x128 .f32 :=
  addf (Host.dotGeneral dot_S4x512x128_S128x128_S4x512x128_2_1_01_0_n_n none a W1) (broadcastInDim S4x512x128 ![0, 1, 2] bcast_S1x1x128_S4x512x128_0_1_2 (broadcastInDim S1x1x128 ![2] bcast_S128_S1x1x128_2 b1))

/-- The atoms' messages. -/
def amR (a : FVec Ideal S4x512x128 .f32) (W1 : FVec Ideal S128x128 .f32) (b1 : FVec Ideal S128 .f32) (W2 : FVec Ideal S128x128 .f32) (b2 : FVec Ideal S128 .f32) : FVec Ideal S4x512x128 .f32 :=
  addf (Host.dotGeneral dot_S4x512x128_S128x128_S4x512x128_2_1_01_0_n_n none (mulf (linR a W1 b1) (Host.divf (broadcastInDim S4x512x128 ![] bcast_S_S4x512x128 (constant S_ .f32 0x3F800000#32)) (addf (broadcastInDim S4x512x128 ![] bcast_S_S4x512x128 (constant S_ .f32 0x3F800000#32)) (Host.exp (Host.negf (linR a W1 b1)))))) W2) (broadcastInDim S4x512x128 ![0, 1, 2] bcast_S1x1x128_S4x512x128_0_1_2 (broadcastInDim S1x1x128 ![2] bcast_S128_S1x1x128_2 b2))

/-- The neighbours' numbers, one per feature. -/
def posR (N : IVec S4x512x64 32) : IVec S4x32768x128x1 32 :=
  shapeCast _ (select (cmpi .slt (broadcastInDim S4x32768x128 ![0, 1, 2] bcast_S4x32768x1_S4x32768x128_0_1_2 (shapeCast _ N shapeCasts_S4x512x64_S4x32768x1)) (broadcastInDim S4x32768x128 ![] bcast_S_S4x32768x128 (constantI S_ 32 0#32))) (addi (broadcastInDim S4x32768x128 ![0, 1, 2] bcast_S4x32768x1_S4x32768x128_0_1_2 (shapeCast _ N shapeCasts_S4x512x64_S4x32768x1)) (broadcastInDim S4x32768x128 ![] bcast_S_S4x32768x128 (constantI S_ 32 512#32))) (broadcastInDim S4x32768x128 ![0, 1, 2] bcast_S4x32768x1_S4x32768x128_0_1_2 (shapeCast _ N shapeCasts_S4x512x64_S4x32768x1))) shapeCasts_S4x32768x128_S4x32768x128x1

/-- The neighbours' messages. -/
def ajR (am : FVec Ideal S4x512x128 .f32) (pos : IVec S4x32768x128x1 32) : FVec Ideal S4x512x64x128 .f32 :=
  shapeCast _ (select (Host.reduce IntOp.andi (andi (cmpi .sge pos (broadcastInDim S4x32768x128x1 ![] bcast_S_S4x32768x128x1 (constantI S_ 32 0#32))) (cmpi .sle pos (broadcastInDim S4x32768x128x1 ![0, 1, 2, 3] bcast_S1x1x1x1_S4x32768x128x1_0_1_2_3 (broadcastInDim S1x1x1x1 ![3] bcast_S1_S1x1x1x1_3 (constantI S1 32 511#32))))) (constantI S_ 1 1#1) reducesTo_S4x32768x128x1_S4x32768x128_d3 h_S_) (Host.gather gather_S4x512x128_S4x32768x128x1_S4x32768x128_n_1_02_02_1_3_111 am pos) (broadcastInDim S4x32768x128 ![] bcast_S_S4x32768x128 (constant S_ .f32 0x7FC00000#32))) shapeCasts_S4x32768x128_S4x512x64x128

/-- The filters. -/
def rbR (x : FVec Ideal S4x512x64x20 .f32) (W : FVec Ideal S128x20 .f32) (b : FVec Ideal S128 .f32) : FVec Ideal S4x512x64x128 .f32 :=
  addf (Host.dotGeneral dot_S4x512x64x20_S128x20_S4x512x64x128_3_1_012_0_n_n none x W) (broadcastInDim S4x512x64x128 ![0, 1, 2, 3] bcast_S1x1x1x128_S4x512x64x128_0_1_2_3 (broadcastInDim S1x1x1x128 ![3] bcast_S128_S1x1x1x128_3 b))

/-- The distances over the cutoff. -/
def xR (D : FVec Ideal S4x512x64 .f32) : FVec Ideal S4x512x64 .f32 :=
  Host.divf D (broadcastInDim S4x512x64 ![] bcast_S_S4x512x64 (constant S_ .f32 0x40A00000#32))

/-- The cutoff's values. -/
def cutR (D : FVec Ideal S4x512x64 .f32) : FVec Ideal S4x512x64 .f32 :=
  mulf (subf (addf (subf (broadcastInDim S4x512x64 ![] bcast_S_S4x512x64 (constant S_ .f32 0x3F800000#32)) (mulf (broadcastInDim S4x512x64 ![] bcast_S_S4x512x64 (constant S_ .f32 0x425C0000#32)) (mulf (xR D) (mulf (mulf (mulf (xR D) (xR D)) (mulf (xR D) (xR D))) (mulf (mulf (xR D) (xR D)) (mulf (xR D) (xR D))))))) (mulf (broadcastInDim S4x512x64 ![] bcast_S_S4x512x64 (constant S_ .f32 0x42C60000#32)) (mulf (mulf (xR D) (xR D)) (mulf (mulf (mulf (xR D) (xR D)) (mulf (xR D) (xR D))) (mulf (mulf (xR D) (xR D)) (mulf (xR D) (xR D))))))) (mulf (broadcastInDim S4x512x64 ![] bcast_S_S4x512x64 (constant S_ .f32 0x42340000#32)) (mulf (mulf (xR D) (mulf (xR D) (xR D))) (mulf (mulf (mulf (xR D) (xR D)) (mulf (xR D) (xR D))) (mulf (mulf (xR D) (xR D)) (mulf (xR D) (xR D))))))) (uitofp .f32 (cmpf .olt D (broadcastInDim S4x512x64 ![] bcast_S_S4x512x64 (constant S_ .f32 0x40A00000#32))))

/-- The messages. -/
def msR (am : FVec Ideal S4x512x128 .f32) (aj rb : FVec Ideal S4x512x64x128 .f32) (cut NM : FVec Ideal S4x512x64 .f32) : FVec Ideal S4x512x64x128 .f32 :=
  mulf (mulf (mulf (broadcastInDim S4x512x64x128 ![0, 1, 2, 3] bcast_S4x512x1x128_S4x512x64x128_0_1_2_3 (broadcastInDim S4x512x1x128 ![0, 1, 3] bcast_S4x512x128_S4x512x1x128_0_1_3 am)) aj)
    (mulf rb (broadcastInDim S4x512x64x128 ![0, 1, 2, 3] bcast_S4x512x64x1_S4x512x64x128_0_1_2_3 (broadcastInDim S4x512x64x1 ![0, 1, 2] bcast_S4x512x64_S4x512x64x1_0_1_2 cut))))
    (broadcastInDim S4x512x64x128 ![0, 1, 2, 3] bcast_S4x512x64x1_S4x512x64x128_0_1_2_3 (broadcastInDim S4x512x64x1 ![0, 1, 2] bcast_S4x512x64_S4x512x64x1_0_1_2 NM))

variable (m : (ℓ : Loc nD τ sig) → Buf (Elt Ideal) ℓ) (c : Dev nD)

/-- The reference's two results by these parts. -/
theorem v58_eq : Value.res_main_v58 (F := Ideal) m c = addf (F := Ideal) (m ((c.tc : Thread nD τ).loc main_arg1)) (msR (amR (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))) (ajR (amR (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))) (posR (m ((c.tc : Thread nD τ).loc main_arg4)))) (rbR (m ((c.tc : Thread nD τ).loc main_arg2)) (m ((c.tc : Thread nD τ).loc main_arg6)) (m ((c.tc : Thread nD τ).loc main_arg7))) (cutR (m ((c.tc : Thread nD τ).loc main_arg3))) (m ((c.tc : Thread nD τ).loc main_arg5))) := by
  unfold Value.res_main_v58
  rfl
theorem v57_eq : Value.res_main_v57 (F := Ideal) m c = addf (F := Ideal) (m ((c.tc : Thread nD τ).loc main_arg0)) (Host.reduceAdd (msR (amR (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))) (ajR (amR (m ((c.tc : Thread nD τ).loc main_arg0)) (m ((c.tc : Thread nD τ).loc main_arg8)) (m ((c.tc : Thread nD τ).loc main_arg9)) (m ((c.tc : Thread nD τ).loc main_arg10)) (m ((c.tc : Thread nD τ).loc main_arg11))) (posR (m ((c.tc : Thread nD τ).loc main_arg4)))) (rbR (m ((c.tc : Thread nD τ).loc main_arg2)) (m ((c.tc : Thread nD τ).loc main_arg6)) (m ((c.tc : Thread nD τ).loc main_arg7))) (cutR (m ((c.tc : Thread nD τ).loc main_arg3))) (m ((c.tc : Thread nD τ).loc main_arg5))) (constant S_ .f32 0x00000000#32) reducesTo_S4x512x64x128_S4x512x128_d2 h_S_) := by
  unfold Value.res_main_v57
  rfl

end Cert.ReferenceIdeal.Val

end
-- ==== Proof.V.RefAt.lean ====
/-
  The reference's parts at an index.
-/
module

public import proofs.«01_k».proof.Proof.V.RefParts
public import Idealize.ShloMosaic.Lib.WordCmp

@[expose] public section

set_option maxRecDepth 16384

noncomputable section

namespace Cert.ReferenceIdeal.Val

open Cert.ReferenceIdeal Cert.ReferenceIdeal.Gen
open Idealize.ShloMosaic Idealize.ShloMosaic.TcCoe

/-- The hidden layer at an atom and unit. -/
theorem linR_apply (a : FVec Ideal S4x512x128 .f32) (W1 : FVec Ideal S128x128 .f32) (b1 : FVec Ideal S128 .f32) (b : Fin 4) (i : Fin 512) (g : Fin 128) :
    linR a W1 b1 (ix3 b i g) = (∑ k : Fin 128, a (ix3 b i k) * W1 (ix2 g k)) + b1 (ix1 g) := by
  pointwise [linR]
/-- An atom's message at a feature. -/
theorem amR_apply (a : FVec Ideal S4x512x128 .f32) (W1 : FVec Ideal S128x128 .f32) (b1 : FVec Ideal S128 .f32) (W2 : FVec Ideal S128x128 .f32) (b2 : FVec Ideal S128 .f32) (b : Fin 4) (i : Fin 512) (f : Fin 128) :
    amR a W1 b1 W2 b2 (ix3 b i f) = (∑ g : Fin 128, (linR a W1 b1 (ix3 b i g) * Ideal.logistic (linR a W1 b1 (ix3 b i g))) * W2 (ix2 f g)) + b2 (ix1 f) := by
  pointwise [amR]
  rfl
/-- A neighbour's number, where every number is in range. -/
theorem posR_apply (N : IVec S4x512x64 32) (b : Fin 4) (r : Fin 32768) (f : Fin 128) (h : ∀ i, (N i).toNat < 512) :
    posR N (ix4 b r f 0) = N (ix3 b ⟨r.val / 64, by omega⟩ ⟨r.val % 64, by omega⟩) := by
  pointwise [posR]
  have := h (ix3 b ⟨r.val / 64, by omega⟩ ⟨r.val % 64, by omega⟩)
  generalize N (ix3 b ⟨r.val / 64, by omega⟩ ⟨r.val % 64, by omega⟩) = q at this ⊢
  have e : IntOp.cmpi CmpIPredicate.slt q 0#32 = 0#1 := (show _ ↔ q.toNat < 2147483648 by word_cmp).2 (by omega)
  rw [e]
  rfl
/-- A filter at a pair and feature. -/
theorem rbR_apply (x : FVec Ideal S4x512x64x20 .f32) (W : FVec Ideal S128x20 .f32) (bb : FVec Ideal S128 .f32) (b : Fin 4) (i : Fin 512) (n : Fin 64) (f : Fin 128) :
    rbR x W bb (ix4 b i n f) = (∑ k : Fin 20, x (ix4 b i n k) * W (ix2 f k)) + bb (ix1 f) := by
  pointwise [rbR]
/-- A message at a pair and feature. -/
theorem msR_apply (am : FVec Ideal S4x512x128 .f32) (aj rb : FVec Ideal S4x512x64x128 .f32) (cut NM : FVec Ideal S4x512x64 .f32) (b : Fin 4) (i : Fin 512) (n : Fin 64) (f : Fin 128) :
    msR am aj rb cut NM (ix4 b i n f) = ((am (ix3 b i f) * aj (ix4 b i n f)) * (rb (ix4 b i n f) * cut (ix3 b i n))) * NM (ix3 b i n) := by
  pointwise [msR]
/-- The gather along the atoms' axis: entry `(b, r, f)` is the atom's whose number stands at `(b, r, f)`. -/
theorem gather_apply (am : FVec Ideal S4x512x128 .f32) (pos : IVec S4x32768x128x1 32) (b : Fin 4) (r : Fin 32768) (f : Fin 128) (h : (pos (ix4 b r f 0)).toNat < 512) :
    Host.gather gather_S4x512x128_S4x32768x128x1_S4x32768x128_n_1_02_02_1_3_111 am pos (ix3 b r f) = am (ix3 b ⟨(pos (ix4 b r f 0)).toNat, h⟩ f) := by
  unfold Host.gather
  congr 1
  funext a
  refine Fin.ext ?_
  show GatherDims.start gather_S4x512x128_S4x32768x128x1_S4x32768x128_n_1_02_02_1_3_111 (ix3 b r f) pos a + GatherDims.batchCoord gather_S4x512x128_S4x32768x128x1_S4x32768x128_n_1_02_02_1_3_111 (ix3 b r f) a + GatherDims.offCoord gather_S4x512x128_S4x32768x128x1_S4x32768x128_n_1_02_02_1_3_111 (ix3 b r f) a = _
  have batch (a : Fin 3) (ha : a ∈ ([0, 2] : List (Fin 3))) (n : ℕ) (hn : GatherDims.batchCoord gather_S4x512x128_S4x32768x128x1_S4x32768x128_n_1_02_02_1_3_111 (ix3 b r f) a = n) :
      GatherDims.start gather_S4x512x128_S4x32768x128x1_S4x32768x128_n_1_02_02_1_3_111 (ix3 b r f) pos a + GatherDims.batchCoord gather_S4x512x128_S4x32768x128x1_S4x32768x128_n_1_02_02_1_3_111 (ix3 b r f) a + GatherDims.offCoord gather_S4x512x128_S4x32768x128x1_S4x32768x128_n_1_02_02_1_3_111 (ix3 b r f) a = n := by
    rw [GatherDims.start_batching _ _ _ _ ha, GatherDims.offCoord_eq_zero _ _ _ fun hk => ((GatherDims.mem_sKept _ _).mp hk).2 ha, hn, Nat.zero_add, Nat.add_zero]
  match a with
  | ⟨0, _⟩ => exact batch 0 (by decide) b.val rfl
  | ⟨2, _⟩ => exact batch 2 (by decide) f.val rfl
  | ⟨1, _⟩ =>
    have h1 : (1 : Fin 3) ∈ (gather_S4x512x128_S4x32768x128x1_S4x32768x128_n_1_02_02_1_3_111).startIndexMap := List.mem_singleton.mpr rfl
    have hsi : GatherDims.siIdx gather_S4x512x128_S4x32768x128x1_S4x32768x128_n_1_02_02_1_3_111 (ix3 b r f) ⟨List.idxOf (1 : Fin 3) (gather_S4x512x128_S4x32768x128x1_S4x32768x128_n_1_02_02_1_3_111).startIndexMap, List.idxOf_lt_length_iff.2 h1⟩ = ix4 b r f 0 := by
      funext k; refine Fin.ext ?_
      match k with
      | ⟨0, _⟩ => rfl
      | ⟨1, _⟩ => rfl
      | ⟨2, _⟩ => rfl
      | ⟨3, _⟩ => rfl
    refine (congrArg₂ (· + ·) (congrArg₂ (· + ·) (?_ : GatherDims.start gather_S4x512x128_S4x32768x128x1_S4x32768x128_n_1_02_02_1_3_111 (ix3 b r f) pos (1 : Fin 3) = (pos (ix4 b r f 0)).toNat)
      (GatherDims.batchCoord_eq_zero gather_S4x512x128_S4x32768x128x1_S4x32768x128_n_1_02_02_1_3_111 (ix3 b r f) (1 : Fin 3) (by decide)))
      (GatherDims.offCoord_eq_zero gather_S4x512x128_S4x32768x128x1_S4x32768x128_n_1_02_02_1_3_111 (ix3 b r f) (1 : Fin 3) fun hk => ((GatherDims.mem_sKept _ _).mp hk).1 (List.mem_singleton.mpr rfl)))
    unfold GatherDims.start
    rw [dif_pos h1, hsi]
    show min (pos (ix4 b r f 0)).toInt.toNat (512 - 1) = _
    rw [BitVec.toInt_eq_toNat_of_lt (by omega)]
    omega

/-- A neighbour's message: the message of the atom its number names, in the same batch. -/
theorem ajR_apply (am : FVec Ideal S4x512x128 .f32) (pos : IVec S4x32768x128x1 32) (h : ∀ i, (pos i).toNat < 512) (b : Fin 4) (i : Fin 512) (n : Fin 64) (f : Fin 128) :
    ajR am pos (ix4 b i n f) = am (ix3 b ⟨(pos (ix4 b ⟨i.val * 64 + n.val, by omega⟩ f 0)).toNat, h _⟩ f) := by
  pointwise [ajR]
  have hp := h (ix4 b ⟨i.val * 64 + n.val, by omega⟩ f 0)
  rw [gather_apply _ _ _ _ _ hp]
  have e (q : BitVec 32) (hq : q.toNat < 512) : IntOp.andi (IntOp.cmpi .sge q 0#32) (IntOp.cmpi .sle q 511#32) = 1#1 :=
    (show _ ↔ q.toNat < 512 by word_cmp).2 hq
  rw [show (Finset.univ : Finset (Fin 1)) = {0} from rfl, Finset.fold_singleton, e _ hp]
  rfl

end Cert.ReferenceIdeal.Val

end
-- ==== Proof.V.KerAt.lean ====
/-
  The kernel at an index.
-/
module

public import proofs.«01_k».proof.Proof.KI.Ends
public import Idealize.ShloMosaic.Lib.Pointwise
public import Idealize.ShloMosaic.Lib.WordCmp
public import Idealize.ShloMosaic.Lib.Affine

@[expose] public section

set_option maxRecDepth 16384

noncomputable section

namespace Cert.KernelIdeal.Val

open Cert.KernelIdeal Cert.KernelIdeal.Gen Cert.KernelIdeal.Run
open Idealize.ShloMosaic Idealize.ShloMosaic.TcCoe

/-- The cutoff's value at a distance, as the kernel computes it. -/
def cutK (d : EReal) : EReal :=
  if d < Ideal.ofBits FTy.f32 1084227584#32 then
    1 + d * Named.named (F := Ideal) (φ := .f32) κ "inv_cutoff" 1045220557#32 * (d * Named.named (F := Ideal) (φ := .f32) κ "inv_cutoff" 1045220557#32)
          * (d * Named.named (F := Ideal) (φ := .f32) κ "inv_cutoff" 1045220557#32 * (d * Named.named (F := Ideal) (φ := .f32) κ "inv_cutoff" 1045220557#32))
          * (d * Named.named (F := Ideal) (φ := .f32) κ "inv_cutoff" 1045220557#32 * (d * Named.named (F := Ideal) (φ := .f32) κ "inv_cutoff" 1045220557#32)
            * (d * Named.named (F := Ideal) (φ := .f32) κ "inv_cutoff" 1045220557#32 * (d * Named.named (F := Ideal) (φ := .f32) κ "inv_cutoff" 1045220557#32)))
          * (d * Named.named (F := Ideal) (φ := .f32) κ "inv_cutoff" 1045220557#32)
        * (Ideal.ofBits FTy.f32 3260809216#32 + d * Named.named (F := Ideal) (φ := .f32) κ "inv_cutoff" 1045220557#32
            * (Ideal.ofBits FTy.f32 1120272384#32 - Ideal.ofBits FTy.f32 1110704128#32 * (d * Named.named (F := Ideal) (φ := .f32) κ "inv_cutoff" 1045220557#32)))
  else 0

/-- The masked cutoff, repeated for each of the block's rows. -/
theorem scale_apply (X3 X4 : Vec Ideal S1x64x128 .f32) (r : Fin 8192) (k : Fin 64) :
    k2_pay82 X3 X4 (ix2 r k) = cutK (X3 (ix3 0 k ⟨r.val / 64, by omega⟩)) * X4 (ix3 0 k ⟨r.val / 64, by omega⟩) := by
  pointwise [k2_pay82]
  rfl

/-- One neighbour's filter at one atom and feature. -/
theorem filtRow_apply (X2 : Vec Ideal S1x64x20x128 .f32) (X7 : Vec Ideal S20x128 .f32) (X8 : Vec Ideal S1x128 .f32) (j : ℕ) (hj : j < 64) (r k : Fin 128) :
    filtRow X2 X7 X8 j hj (ix2 r k) = (∑ x : Fin 20, X2 (ix4 0 ⟨j, hj⟩ x r) * X7 (ix2 x k)) + X8 (ix2 0 k) := by
  pointwise [filtRow, k2_pay1, k2_pay2, k2_pay3]
  refine congrArg (· + _) (Finset.sum_congr rfl fun x _ => ?_)
  have e : (⟨(20 * j + x.val) / 20, by omega⟩ : Fin 64) = ⟨j, hj⟩ := Fin.ext (by show (20 * j + x.val) / 20 = j; omega)
  rw [e]

/-- The atoms' messages at one atom and feature. -/
theorem mlp_apply (v0 : Vec Ideal S2048x128 .f32) (v2 : Vec Ideal S128x128 .f32) (v4 : Vec Ideal S1x128 .f32) (v10 : Vec Ideal S128x128 .f32) (v12 : Vec Ideal S1x128 .f32) (r : Fin 2048) (k : Fin 128) :
    k0_pay1 v0 v2 v4 v10 v12 (ix2 r k)
      = (∑ g : Fin 128, (((∑ x : Fin 128, v0 (ix2 r x) * v2 (ix2 g x)) + v4 (ix2 0 g)) * Ideal.logistic ((∑ x : Fin 128, v0 (ix2 r x) * v2 (ix2 g x)) + v4 (ix2 0 g))) * v10 (ix2 k g)) + v12 (ix2 0 k) := by
  pointwise [k0_pay1]

/-- The mask of row `r` keeps column `r % 64` alone. -/
theorem mask_eq (r : ℕ) (hr : r < 8192) (x : ℕ) (hx : x < 64) :
    IntOp.cmpi CmpIPredicate.eq (BitVec.ofNat 32 x)
      (Scalar.select
        (IntOp.andi
          (IntOp.xori (IntOp.cmpi CmpIPredicate.slt (IntOp.remsi ArithUnit.vector (BitVec.ofNat 32 r) 64#32) 0#32) (Scalar.cmpi CmpIPredicate.slt 64#32 0#32))
          (IntOp.cmpi CmpIPredicate.ne (IntOp.remsi ArithUnit.vector (BitVec.ofNat 32 r) 64#32) 0#32))
        (IntOp.addi (IntOp.remsi ArithUnit.vector (BitVec.ofNat 32 r) 64#32) 64#32)
        (IntOp.remsi ArithUnit.vector (BitVec.ofNat 32 r) 64#32)) = BitVec.ofBool (decide (x = r % 64)) := by
  have hrn : (BitVec.ofNat 32 r).toNat = r := by rw [BitVec.toNat_ofNat]; omega
  have h64 : (IntOp.remsi ArithUnit.vector (BitVec.ofNat 32 r) 64#32).toNat = r % 64 := by
    rw [IntOp.toNat_remsi _ (by omega) 64 (by decide) (by decide), hrn]
  generalize IntOp.remsi ArithUnit.vector (BitVec.ofNat 32 r) 64#32 = q at h64 ⊢
  have e : IntOp.cmpi CmpIPredicate.slt q 0#32 = 0#1 := (show _ ↔ q.toNat < 2147483648 by word_cmp).2 (by omega)
  have e' : Scalar.cmpi CmpIPredicate.slt 64#32 0#32 = 0#1 := by decide
  have e'' : ∀ z : BitVec 1, IntOp.andi (IntOp.xori 0#1 0#1) z = 0#1 := by decide
  rw [e, e', e'']
  show BitVec.ofBool (BitVec.ofNat 32 x == q) = _
  congr 1
  rw [Bool.eq_iff_iff, beq_iff_eq, decide_eq_true_iff, ← BitVec.toNat_inj, h64, BitVec.toNat_ofNat, Nat.mod_eq_of_lt (by omega)]

/-- The messages at one row and feature of a block. -/
theorem ms_apply (v457 : FVec Ideal S8192x128 .f32) (v487 : FVec Ideal S8192x64 .f32) (v511 : Vec Ideal S128x128 .f32) (v517 : Vec Ideal S8192x128 .f32) (r : Fin 8192) (k : Fin 128) :
    k2_pay83 v457 v487 (iota .tc S8192x64 32 [1] iota_S8192x64_d1_w32) (iota .tc S8192x64 32 [0] iota_S8192x64_d0_w32) 64#32 v511 v517 (ix2 r k)
      = v511 (ix2 ⟨r.val / 64, by omega⟩ k) * v517 (ix2 r k) * v457 (ix2 r k) * v487 (ix2 r ⟨r.val % 64, by omega⟩) := by
  pointwise [k2_pay83]
  refine congrArg₂ (· * ·) rfl ?_
  rw [Finset.sum_eq_single (⟨r.val % 64, by omega⟩ : Fin 64)]
  · rw [mask_eq _ r.isLt _ (by omega), decide_eq_true rfl]; rfl
  · intro x _ hx
    rw [mask_eq _ r.isLt _ x.isLt, decide_eq_false (fun h => hx (Fin.ext h))]; rfl
  · intro h; exact absurd (Finset.mem_univ _) h

/-- The rows' divisor is 64. -/
theorem div_64 : Scalar.select (Scalar.cmpi .eq 64#32 0#32) 1#32 64#32 = 64#32 := by decide

/-- The message of one row and feature, of the blocks' entries. -/
def msgK (X1 : Vec Ideal S8192x128 .f32) (X2 : Vec Ideal S1x64x20x128 .f32) (X3 X4 : Vec Ideal S1x64x128 .f32) (X6 : Vec Ideal S128x128 .f32) (X7 : Vec Ideal S20x128 .f32) (X8 : Vec Ideal S1x128 .f32) (i : Fin 128) (n : Fin 64) (k : Fin 128) : EReal :=
  X6 (ix2 i k) * X1 (ix2 ⟨i.val * 64 + n.val, by omega⟩ k) * ((∑ x : Fin 20, X2 (ix4 0 n x i) * X7 (ix2 x k)) + X8 (ix2 0 k)) * (cutK (X3 (ix3 0 n i)) * X4 (ix3 0 n i))

/-- The messages that the body computes are these. -/
theorem msgK_eq (X1 : Vec Ideal S8192x128 .f32) (X2 : Vec Ideal S1x64x20x128 .f32) (X3 X4 : Vec Ideal S1x64x128 .f32) (X6 : Vec Ideal S128x128 .f32) (X7 : Vec Ideal S20x128 .f32) (X8 : Vec Ideal S1x128 .f32) (i : Fin 128) (n : Fin 64) (k : Fin 128) :
    k2_pay83 (k2_pay81 (filt X2 X7 X8)) (k2_pay82 X3 X4) (iota .tc S8192x64 32 [1] iota_S8192x64_d1_w32) (iota .tc S8192x64 32 [0] iota_S8192x64_d0_w32) 64#32 X6 X1 (ix2 ⟨i.val * 64 + n.val, by omega⟩ k)
      = msgK X1 X2 X3 X4 X6 X7 X8 i n k := by
  have ei : (⟨(i.val * 64 + n.val) / 64, by omega⟩ : Fin 128) = i := Fin.ext (by show (i.val * 64 + n.val) / 64 = i.val; omega)
  have en : (⟨(i.val * 64 + n.val) % 64, by omega⟩ : Fin 64) = n := Fin.ext (by show (i.val * 64 + n.val) % 64 = n.val; omega)
  have ef : k2_pay81 (filt X2 X7 X8) (ix2 ⟨i.val * 64 + n.val, by omega⟩ k) = filt X2 X7 X8 (ix3 i n k) := by
    pointwise [k2_pay81]
  rw [ms_apply, scale_apply, ef]
  simp only [ei, en]
  show _ * _ * filtRow X2 X7 X8 n.val n.isLt (ix2 i k) * _ = _
  rw [filtRow_apply]
  rfl

/-- A block's updated pair feature: the feature and its message. -/
theorem fuseP_apply (X0 X1 : Vec Ideal S8192x128 .f32) (X2 : Vec Ideal S1x64x20x128 .f32) (X3 X4 : Vec Ideal S1x64x128 .f32) (X6 : Vec Ideal S128x128 .f32) (X7 : Vec Ideal S20x128 .f32) (X8 : Vec Ideal S1x128 .f32) (i : Fin 128) (n : Fin 64) (k : Fin 128) :
    fuseP X0 X1 X2 X3 X4 X6 X7 X8 (ix2 ⟨i.val * 64 + n.val, by omega⟩ k) = X0 (ix2 ⟨i.val * 64 + n.val, by omega⟩ k) + msgK X1 X2 X3 X4 X6 X7 X8 i n k := by
  rw [← msgK_eq]
  unfold fuseP
  rw [div_64]
  pointwise [k2_pay84]

/-- A block's updated atom feature: the feature and its neighbours' messages. -/
theorem fuseA_apply (X1 : Vec Ideal S8192x128 .f32) (X2 : Vec Ideal S1x64x20x128 .f32) (X3 X4 : Vec Ideal S1x64x128 .f32) (X5 X6 : Vec Ideal S128x128 .f32) (X7 : Vec Ideal S20x128 .f32) (X8 : Vec Ideal S1x128 .f32) (i : Fin 128) (k : Fin 128) :
    fuseA X1 X2 X3 X4 X5 X6 X7 X8 (ix2 i k) = X5 (ix2 i k) + ∑ n : Fin 64, msgK X1 X2 X3 X4 X6 X7 X8 i n k := by
  unfold fuseA
  rw [div_64]
  pointwise [k2_pay85]
  exact congrArg₂ (· + ·) rfl (Finset.sum_congr rfl fun n _ => msgK_eq X1 X2 X3 X4 X6 X7 X8 i n k)

end Cert.KernelIdeal.Val

end
-- ==== Proof.V.CutAt.lean ====
/-
  The cutoff polynomial: the reference's sum and the kernel's nested form are one value at every distance.
-/
module

public import proofs.«01_k».proof.Proof.V.RefAt
public import proofs.«01_k».proof.Proof.V.KerAt

@[expose] public section

set_option maxRecDepth 16384

noncomputable section

namespace Cert.ReferenceIdeal.Val

open Cert.ReferenceIdeal Cert.ReferenceIdeal.Gen
open Idealize.ShloMosaic Idealize.ShloMosaic.TcCoe

/-! The literals' values. -/

theorem c5 : Ideal.ofBits .f32 1084227584#32 = ((5 : ℝ) : EReal) := by
  simp [Ideal.ofBits, Ideal.ieee, -EReal.coe_mul]; norm_num
theorem c99 : Ideal.ofBits .f32 1120272384#32 = ((99 : ℝ) : EReal) := by
  simp [Ideal.ofBits, Ideal.ieee, -EReal.coe_mul]; norm_num
theorem c45 : Ideal.ofBits .f32 1110704128#32 = ((45 : ℝ) : EReal) := by
  simp [Ideal.ofBits, Ideal.ieee, -EReal.coe_mul]; norm_num
theorem c55 : Ideal.ofBits .f32 1113325568#32 = ((55 : ℝ) : EReal) := by
  simp [Ideal.ofBits, Ideal.ieee, -EReal.coe_mul]; norm_num
theorem cn55 : Ideal.ofBits .f32 3260809216#32 = ((-55 : ℝ) : EReal) := by
  simp [Ideal.ofBits, Ideal.ieee, -EReal.coe_mul, -EReal.coe_neg]; norm_num
theorem cinv : Named.named (F := Ideal) (φ := .f32) Cert.KernelIdeal.κ "inv_cutoff" 1045220557#32 = ((5⁻¹ : ℝ) : EReal) := rfl

/-- The eighth power, by squarings. -/
def pow8 (x : EReal) : EReal := x * x * (x * x) * (x * x * (x * x))
/-- The cutoff's polynomial as the reference sums it. -/
def polyR (x : EReal) : EReal :=
  1 - ((55 : ℝ) : EReal) * (x * pow8 x) + ((99 : ℝ) : EReal) * (x * x * pow8 x) - ((45 : ℝ) : EReal) * (x * (x * x) * pow8 x)
/-- The cutoff's polynomial as the kernel nests it. -/
def polyK (x : EReal) : EReal :=
  1 + pow8 x * x * (((-55 : ℝ) : EReal) + x * (((99 : ℝ) : EReal) - ((45 : ℝ) : EReal) * x))

/-- They agree at every number and at minus infinity. -/
theorem poly_coe (x : ℝ) : polyR (x : EReal) = polyK (x : EReal) := by
  unfold polyR polyK pow8
  simp only [← EReal.coe_one, ← EReal.coe_mul, ← EReal.coe_sub, ← EReal.coe_add]
  refine congrArg _ ?_
  ring
theorem poly_bot : polyR ⊥ = polyK ⊥ := by
  unfold polyR polyK pow8
  have h1 : ((45 : ℝ) : EReal) * ⊥ = ⊥ := EReal.coe_mul_bot_of_pos (by norm_num)
  have h2 : ((55 : ℝ) : EReal) * ⊥ = ⊥ := EReal.coe_mul_bot_of_pos (by norm_num)
  have h3 : ((99 : ℝ) : EReal) * ⊤ = ⊤ := EReal.coe_mul_top_of_pos (by norm_num)
  have h4 : (1 : EReal) - ⊥ = ⊤ := EReal.coe_sub_bot 1
  have h5 : ((99 : ℝ) : EReal) - ⊥ = ⊤ := EReal.coe_sub_bot 99
  have h6 : (1 : EReal) + ⊤ = ⊤ := EReal.coe_add_top 1
  simp only [EReal.bot_mul_bot, EReal.top_mul_top, EReal.bot_mul_top, EReal.top_mul_bot, h1, h2, h3, h4, h5, h6, EReal.top_add_top, EReal.top_sub_bot, EReal.add_bot]

/-- The kernel's cutoff by its polynomial. -/
theorem cutK_eq (d : EReal) : Cert.KernelIdeal.Val.cutK d = if d < ((5 : ℝ) : EReal) then polyK (d * ((5⁻¹ : ℝ) : EReal)) else 0 := by
  unfold Cert.KernelIdeal.Val.cutK polyK pow8
  rw [cinv, c5, c99, c45, cn55]

/-- The reference's cutoff is the kernel's. -/
theorem cutR_apply (D : FVec Ideal S4x512x64 .f32) (b : Fin 4) (i : Fin 512) (n : Fin 64) :
    cutR D (ix3 b i n) = Cert.KernelIdeal.Val.cutK (D (ix3 b i n)) := by
  pointwise [cutR, xR]
  rw [c5, c99, c45, c55, cutK_eq, Ideal.div_coe (by norm_num)]
  generalize (D (ix3 b i n) : EReal) = d
  show polyR (d * ((1 / 5 : ℝ) : EReal)) * _ = _
  rw [one_div]
  by_cases h : d < ((5 : ℝ) : EReal)
  · rw [if_pos h, decide_eq_true h, show FloatOps.uitofp (F := Ideal) FTy.f32 (BitVec.ofBool true) = 1 from by
      show (((BitVec.ofBool true).toNat : ℝ) : EReal) = 1; simp, mul_one]
    induction d using EReal.rec with
    | bot => rw [EReal.bot_mul_coe_of_pos (by norm_num)]; exact poly_bot
    | coe d => rw [← EReal.coe_mul]; exact poly_coe _
    | top => exact absurd h not_top_lt
  · rw [if_neg h, decide_eq_false h, show FloatOps.uitofp (F := Ideal) FTy.f32 (BitVec.ofBool false) = 0 from by
      show (((BitVec.ofBool false).toNat : ℝ) : EReal) = 0; simp, mul_zero]

end Cert.ReferenceIdeal.Val

end
-- ==== Proof.V.KerIn.lean ====
/-
  What the calls' operands hold, of the arguments.
-/
module

public import proofs.«01_k».proof.Proof.KI.Ends

@[expose] public section

set_option maxRecDepth 16384

noncomputable section

namespace Cert.KernelIdeal.Val

open Cert.KernelIdeal Cert.KernelIdeal.Gen Cert.KernelIdeal.Run
open Idealize.ShloMosaic Idealize.ShloMosaic.TcCoe

variable {F : FTy → Type} [FloatOps F] [Named F]

variable (m : (ℓ : Loc nD τ sig) → Buf (Elt F) ℓ)

/-! Before the first call. -/

theorem A1_v0 (d : Dev nD) : A1 m d main_v0 = shapeCast S2048x128 (m ((d.tc : Thread nD τ).loc main_arg0)) shapeCasts_S4x512x128_S2048x128 := by
  show StableHlo.after ops1 (StableHlo.launchContents m d) (dr main_v0) = _
  after_results_simp
  rfl
theorem A1_v1 (d : Dev nD) : A1 m d main_v1 = shapeCast S1x128 (m ((d.tc : Thread nD τ).loc main_arg9)) shapeCasts_S128_S1x128 := by
  show StableHlo.after ops1 (StableHlo.launchContents m d) (dr main_v1) = _
  after_results_simp
  rfl
theorem A1_v2 (d : Dev nD) : A1 m d main_v2 = shapeCast S1x128 (m ((d.tc : Thread nD τ).loc main_arg11)) shapeCasts_S128_S1x128 := by
  show StableHlo.after ops1 (StableHlo.launchContents m d) (dr main_v2) = _
  after_results_simp
  rfl

/-! Before the gather. -/

theorem A2_v3 (d : Dev nD) : A2 m d main_v3 = mlpOut (A1 m d) := by
  rw [← B1_self]
  show StableHlo.after ops2 (B1 m d) (dr main_v3) = _
  after_results_simp
theorem A2_v0 (d : Dev nD) : A2 m d main_v0 = shapeCast S2048x128 (m ((d.tc : Thread nD τ).loc main_arg0)) shapeCasts_S4x512x128_S2048x128 := by
  rw [← A1_v0, ← B1_ne m d main_v0 (by decide)]
  show StableHlo.after ops2 (B1 m d) (dr main_v0) = _
  after_results_simp
theorem A2_v4 (d : Dev nD) : A2 m d main_v4 = transpose S4x64x512 [0, 2, 1] (m ((d.tc : Thread nD τ).loc main_arg3)) transposes_S4x512x64_S4x64x512_0_2_1 := by
  rw [← (kept3 m d).2.1]
  show StableHlo.after ops2 (B1 m d) (dr main_v4) = _
  after_results_simp
theorem A2_v5 (d : Dev nD) : A2 m d main_v5 = transpose S4x64x512 [0, 2, 1] (m ((d.tc : Thread nD τ).loc main_arg5)) transposes_S4x512x64_S4x64x512_0_2_1 := by
  rw [← (kept5 m d).2.1]
  show StableHlo.after ops2 (B1 m d) (dr main_v5) = _
  after_results_simp
theorem A2_v6 (d : Dev nD) : A2 m d main_v6 = transpose S20x128 [1, 0] (m ((d.tc : Thread nD τ).loc main_arg6)) transposes_S128x20_S20x128_1_0 := by
  rw [← (kept6 m d).2.1]
  show StableHlo.after ops2 (B1 m d) (dr main_v6) = _
  after_results_simp

/-! Before the last call. -/

theorem A3_v9 (d : Dev nD) : A3 m d main_v9 = shapeCast S131072x128 (m ((d.tc : Thread nD τ).loc main_arg1)) shapeCasts_S4x512x64x128_S131072x128 := by
  rw [← (kept1 m d).2.2.1]
  show StableHlo.after ops3 (B2 m d) (dr main_v9) = _
  after_results_simp
  rfl
theorem A3_v10 (d : Dev nD) : A3 m d main_v10 = transpose S4x64x20x512 [0, 2, 3, 1] (m ((d.tc : Thread nD τ).loc main_arg2)) transposes_S4x512x64x20_S4x64x20x512_0_2_3_1 := by
  rw [← (kept2 m d).2.2.1]
  show StableHlo.after ops3 (B2 m d) (dr main_v10) = _
  after_results_simp
theorem A3_v11 (d : Dev nD) : A3 m d main_v11 = shapeCast S1x128 (m ((d.tc : Thread nD τ).loc main_arg7)) shapeCasts_S128_S1x128 := by
  rw [← (kept7 m d).2.2.1]
  show StableHlo.after ops3 (B2 m d) (dr main_v11) = _
  after_results_simp
  rfl
theorem A3_v8 (d : Dev nD) : A3 m d main_v8 = gathered (mlpOut (A1 m d)) (shapeCast S131072 (m ((d.tc : Thread nD τ).loc main_arg4)) shapeCasts_S4x512x64_S131072) := by
  rw [← A2_v3, ← A2_v7, ← B2_self]
  show StableHlo.after ops3 (B2 m d) (dr main_v8) = _
  after_results_simp
theorem A3_v3 (d : Dev nD) : A3 m d main_v3 = mlpOut (A1 m d) := by
  rw [← A2_v3 m d, ← B2_ne m d main_v3 (by decide)]
  show StableHlo.after ops3 (B2 m d) (dr main_v3) = _
  after_results_simp
theorem A3_v0 (d : Dev nD) : A3 m d main_v0 = shapeCast S2048x128 (m ((d.tc : Thread nD τ).loc main_arg0)) shapeCasts_S4x512x128_S2048x128 := by
  rw [← A2_v0 m d, ← B2_ne m d main_v0 (by decide)]
  show StableHlo.after ops3 (B2 m d) (dr main_v0) = _
  after_results_simp
theorem A3_v4 (d : Dev nD) : A3 m d main_v4 = transpose S4x64x512 [0, 2, 1] (m ((d.tc : Thread nD τ).loc main_arg3)) transposes_S4x512x64_S4x64x512_0_2_1 := by
  rw [← A2_v4 m d, ← B2_ne m d main_v4 (by decide)]
  show StableHlo.after ops3 (B2 m d) (dr main_v4) = _
  after_results_simp
theorem A3_v5 (d : Dev nD) : A3 m d main_v5 = transpose S4x64x512 [0, 2, 1] (m ((d.tc : Thread nD τ).loc main_arg5)) transposes_S4x512x64_S4x64x512_0_2_1 := by
  rw [← A2_v5 m d, ← B2_ne m d main_v5 (by decide)]
  show StableHlo.after ops3 (B2 m d) (dr main_v5) = _
  after_results_simp
theorem A3_v6 (d : Dev nD) : A3 m d main_v6 = transpose S20x128 [1, 0] (m ((d.tc : Thread nD τ).loc main_arg6)) transposes_S128x20_S20x128_1_0 := by
  rw [← A2_v6 m d, ← B2_ne m d main_v6 (by decide)]
  show StableHlo.after ops3 (B2 m d) (dr main_v6) = _
  after_results_simp

end Cert.KernelIdeal.Val

end
-- ==== Proof.V.KerOut.lean ====
/-
  The last call's two results at an index, of its operands' arrays.
-/
module

public import proofs.«01_k».proof.Proof.V.KerAt

@[expose] public section

set_option maxRecDepth 16384

noncomputable section

namespace Cert.KernelIdeal.Val

open Cert.KernelIdeal Cert.KernelIdeal.Gen Cert.KernelIdeal.Run
open Idealize.ShloMosaic Idealize.ShloMosaic.TcCoe

variable (W : Valuation τ sig (Elt Ideal))

/-! A block's entry is its array's. -/

theorem rd0 (t : Fin cfg2.N) (r : Fin 8192) (k : Fin 128) (i : Fin 131072) (h : i.val = t.val * 8192 + r.val) :
    (blk2 W 0 t : Vec Ideal S8192x128 .f32) (ix2 r k) = W main_v9 (ix2 i k) := by
  have e := emb2_0 t (ix2 r k)
  exact congrArg (W main_v9) (Shape.idx_ext₂ (e.1.trans h.symm) (e.2.trans (by show 0 * 128 + k.val = k.val; omega)))
theorem rd1 (t : Fin cfg2.N) (r : Fin 8192) (k : Fin 128) (i : Fin 131072) (h : i.val = t.val * 8192 + r.val) :
    (blk2 W 1 t : Vec Ideal S8192x128 .f32) (ix2 r k) = W main_v8 (ix2 i k) := by
  have e := emb2_1 t (ix2 r k)
  exact congrArg (W main_v8) (Shape.idx_ext₂ (e.1.trans h.symm) (e.2.trans (by show 0 * 128 + k.val = k.val; omega)))
theorem rd5 (t : Fin cfg2.N) (r : Fin 128) (k : Fin 128) (i : Fin 2048) (h : i.val = t.val * 128 + r.val) :
    (blk2 W 5 t : Vec Ideal S128x128 .f32) (ix2 r k) = W main_v0 (ix2 i k) := by
  have e := emb2_5 t (ix2 r k)
  exact congrArg (W main_v0) (Shape.idx_ext₂ (e.1.trans h.symm) (e.2.trans (by show 0 * 128 + k.val = k.val; omega)))
theorem rd6 (t : Fin cfg2.N) (r : Fin 128) (k : Fin 128) (i : Fin 2048) (h : i.val = t.val * 128 + r.val) :
    (blk2 W 6 t : Vec Ideal S128x128 .f32) (ix2 r k) = W main_v3 (ix2 i k) := by
  have e := emb2_6 t (ix2 r k)
  exact congrArg (W main_v3) (Shape.idx_ext₂ (e.1.trans h.symm) (e.2.trans (by show 0 * 128 + k.val = k.val; omega)))
theorem rd7 (t : Fin cfg2.N) (r : Fin 20) (k : Fin 128) :
    (blk2 W 7 t : Vec Ideal S20x128 .f32) (ix2 r k) = W main_v6 (ix2 r k) := by
  have e := emb2_7 t (ix2 r k)
  exact congrArg (W main_v6) (Shape.idx_ext₂ (e.1.trans (by show 0 * 20 + r.val = r.val; omega)) (e.2.trans (by show 0 * 128 + k.val = k.val; omega)))
theorem rd8 (t : Fin cfg2.N) (r : Fin 1) (k : Fin 128) :
    (blk2 W 8 t : Vec Ideal S1x128 .f32) (ix2 r k) = W main_v11 (ix2 r k) := by
  have e := emb2_8 t (ix2 r k)
  exact congrArg (W main_v11) (Shape.idx_ext₂ (e.1.trans (by show 0 * 1 + r.val = r.val; omega)) (e.2.trans (by show 0 * 128 + k.val = k.val; omega)))
theorem rd3 (t : Fin cfg2.N) (n : Fin 64) (k : Fin 128) (b : Fin 4) (i : Fin 512) (hb : b.val = t.val / 4) (hi : i.val = t.val % 4 * 128 + k.val) :
    (blk2 W 3 t : Vec Ideal S1x64x128 .f32) (ix3 0 n k) = W main_v4 (ix3 b n i) := by
  have e := emb2_3 t (ix3 0 n k)
  refine congrArg (W main_v4) (funext fun a => Fin.ext ?_)
  match a with
  | ⟨0, _⟩ => exact e.1.trans (by show t.val / 4 * 1 + 0 = b.val; omega)
  | ⟨1, _⟩ => exact e.2.1.trans (by show 0 * 64 + n.val = n.val; omega)
  | ⟨2, _⟩ => exact e.2.2.trans hi.symm
theorem rd4 (t : Fin cfg2.N) (n : Fin 64) (k : Fin 128) (b : Fin 4) (i : Fin 512) (hb : b.val = t.val / 4) (hi : i.val = t.val % 4 * 128 + k.val) :
    (blk2 W 4 t : Vec Ideal S1x64x128 .f32) (ix3 0 n k) = W main_v5 (ix3 b n i) := by
  have e := emb2_4 t (ix3 0 n k)
  refine congrArg (W main_v5) (funext fun a => Fin.ext ?_)
  match a with
  | ⟨0, _⟩ => exact e.1.trans (by show t.val / 4 * 1 + 0 = b.val; omega)
  | ⟨1, _⟩ => exact e.2.1.trans (by show 0 * 64 + n.val = n.val; omega)
  | ⟨2, _⟩ => exact e.2.2.trans hi.symm
theorem rd2 (t : Fin cfg2.N) (n : Fin 64) (x : Fin 20) (k : Fin 128) (b : Fin 4) (i : Fin 512) (hb : b.val = t.val / 4) (hi : i.val = t.val % 4 * 128 + k.val) :
    (blk2 W 2 t : Vec Ideal S1x64x20x128 .f32) (ix4 0 n x k) = W main_v10 (ix4 b n x i) := by
  have e := emb2_2 t (ix4 0 n x k)
  refine congrArg (W main_v10) (funext fun a => Fin.ext ?_)
  match a with
  | ⟨0, _⟩ => exact e.1.trans (by show t.val / 4 * 1 + 0 = b.val; omega)
  | ⟨1, _⟩ => exact e.2.1.trans (by show 0 * 64 + n.val = n.val; omega)
  | ⟨2, _⟩ => exact e.2.2.1.trans (by show 0 * 20 + x.val = x.val; omega)
  | ⟨3, _⟩ => exact e.2.2.2.trans hi.symm

/-- The message of a pair and feature, of the last call's operands. -/
def msgW (v3 : Vec Ideal S2048x128 .f32) (v8 : Vec Ideal S131072x128 .f32) (v10 : Vec Ideal S4x64x20x512 .f32) (v6 : Vec Ideal S20x128 .f32) (v11 : Vec Ideal S1x128 .f32) (v4 v5 : Vec Ideal S4x64x512 .f32)
    (b : Fin 4) (i : Fin 512) (n : Fin 64) (f : Fin 128) : EReal :=
  v3 (ix2 ⟨b.val * 512 + i.val, by omega⟩ f) * v8 (ix2 ⟨(b.val * 512 + i.val) * 64 + n.val, by omega⟩ f)
    * ((∑ x : Fin 20, v10 (ix4 b n x i) * v6 (ix2 x f)) + v11 (ix2 0 f))
    * (cutK (v4 (ix3 b n i)) * v5 (ix3 b n i))

/-- Atom `i`'s place in its block. -/
def loc (i : Fin 512) : Fin 128 := ⟨i.val % 128, Nat.mod_lt _ (by decide)⟩
/-- The block of batch `b`'s atom `i`. -/
def pt (b : Fin 4) (i : Fin 512) : Fin cfg2.N := ptOf (b.val * 4 + i.val / 128) (by omega)

/-- A block's message is the arrays'. -/
theorem msgW_eq (b : Fin 4) (i : Fin 512) (n : Fin 64) (f : Fin 128) :
    msgK (blk2 W 1 (pt b i)) (blk2 W 2 (pt b i)) (blk2 W 3 (pt b i)) (blk2 W 4 (pt b i)) (blk2 W 6 (pt b i)) (blk2 W 7 (pt b i)) (blk2 W 8 (pt b i)) (loc i) n f = msgW (W main_v3) (W main_v8) (W main_v10) (W main_v6) (W main_v11) (W main_v4) (W main_v5) b i n f := by
  have hb : b.val = (pt b i).val / 4 := by show b.val = (b.val * 4 + i.val / 128) / 4; omega
  have hi : i.val = (pt b i).val % 4 * 128 + (loc i).val := by show i.val = (b.val * 4 + i.val / 128) % 4 * 128 + i.val % 128; omega
  unfold msgK msgW
  exact congrArg₂ (· * ·) (congrArg₂ (· * ·) (congrArg₂ (· * ·)
      (rd6 W (pt b i) (loc i) f _ (by show b.val * 512 + i.val = (b.val * 4 + i.val / 128) * 128 + i.val % 128; omega))
      (rd1 W (pt b i) _ f _ (by show (b.val * 512 + i.val) * 64 + n.val = (b.val * 4 + i.val / 128) * 8192 + (i.val % 128 * 64 + n.val); omega)))
      (congrArg₂ (· + ·) (Finset.sum_congr rfl fun x _ => congrArg₂ (· * ·) (rd2 W (pt b i) n x (loc i) b i hb hi) (rd7 W (pt b i) x f)) (rd8 W (pt b i) 0 f)))
    (congrArg₂ (· * ·) (congrArg cutK (rd3 W (pt b i) n (loc i) b i hb hi)) (rd4 W (pt b i) n (loc i) b i hb hi))

/-- The updated pair features at a pair and feature. -/
theorem pOut_apply (v9 : Vec Ideal S131072x128 .f32) (h9 : W main_v9 = v9) (b : Fin 4) (i : Fin 512) (n : Fin 64) (f : Fin 128) :
    fusePOut W (ix2 ⟨(b.val * 512 + i.val) * 64 + n.val, by omega⟩ f) = v9 (ix2 ⟨(b.val * 512 + i.val) * 64 + n.val, by omega⟩ f) + msgW (W main_v3) (W main_v8) (W main_v10) (W main_v6) (W main_v11) (W main_v4) (W main_v5) b i n f := by
  subst h9
  have hr : (b.val * 512 + i.val) * 64 + n.val = (pt b i).val * 8192 + ((loc i).val * 64 + n.val) := by
    show _ = (b.val * 4 + i.val / 128) * 8192 + (i.val % 128 * 64 + n.val); omega
  refine (fusePOut_block W (pt b i) (ix2 ⟨(loc i).val * 64 + n.val, by omega⟩ f) _ hr rfl).trans ((fuseP_apply _ _ _ _ _ _ _ _ (loc i) n f).trans ?_)
  exact congrArg₂ (· + ·) (rd0 W (pt b i) _ f _ hr) (msgW_eq W b i n f)

/-- The updated atom features at an atom and feature. -/
theorem aOut_apply (v0 : Vec Ideal S2048x128 .f32) (h0 : W main_v0 = v0) (b : Fin 4) (i : Fin 512) (f : Fin 128) :
    fuseAOut W (ix2 ⟨b.val * 512 + i.val, by omega⟩ f) = v0 (ix2 ⟨b.val * 512 + i.val, by omega⟩ f) + ∑ n : Fin 64, msgW (W main_v3) (W main_v8) (W main_v10) (W main_v6) (W main_v11) (W main_v4) (W main_v5) b i n f := by
  subst h0
  have hr : b.val * 512 + i.val = (pt b i).val * 128 + (loc i).val := by
    show _ = (b.val * 4 + i.val / 128) * 128 + i.val % 128; omega
  refine (fuseAOut_block W (pt b i) (ix2 (loc i) f) _ hr rfl).trans ((fuseA_apply _ _ _ _ _ _ _ _ (loc i) f).trans ?_)
  exact congrArg₂ (· + ·) (rd5 W (pt b i) _ f _ hr) (Finset.sum_congr rfl fun n _ => msgW_eq W b i n f)

end Cert.KernelIdeal.Val

end
-- ==== Proof.V.KerRes.lean ====
/-
  The program's two results at an index, of its arguments.
-/
module

public import proofs.«01_k».proof.Proof.V.KerIn
public import proofs.«01_k».proof.Proof.V.KerOut
public import Idealize.ShloMosaic.Lib.Pipeline.Value

@[expose] public section

set_option maxRecDepth 16384

noncomputable section

namespace Cert.KernelIdeal.Val

open Cert.KernelIdeal Cert.KernelIdeal.Gen Cert.KernelIdeal.Run
open Idealize.ShloMosaic Idealize.ShloMosaic.TcCoe

/-- The hidden layer of the atoms' network before its activation. -/
def linS (a : Vec Ideal S4x512x128 .f32) (W1 : Vec Ideal S128x128 .f32) (b1 : Vec Ideal S128 .f32) (b : Fin 4) (i : Fin 512) (g : Fin 128) : EReal :=
  (∑ k : Fin 128, a (ix3 b i k) * W1 (ix2 g k)) + b1 (ix1 g)
/-- An atom's message. -/
def amS (a : Vec Ideal S4x512x128 .f32) (W1 : Vec Ideal S128x128 .f32) (b1 : Vec Ideal S128 .f32) (W2 : Vec Ideal S128x128 .f32) (b2 : Vec Ideal S128 .f32) (b : Fin 4) (i : Fin 512) (f : Fin 128) : EReal :=
  (∑ g : Fin 128, (linS a W1 b1 b i g * Ideal.logistic (linS a W1 b1 b i g)) * W2 (ix2 f g)) + b2 (ix1 f)
/-- The message of a pair and feature, of the arguments. -/
def msgS (a : Vec Ideal S4x512x128 .f32) (x : Vec Ideal S4x512x64x20 .f32) (D : Vec Ideal S4x512x64 .f32) (N : Vec Ideal S4x512x64 .i32) (NM : Vec Ideal S4x512x64 .f32) (W : Vec Ideal S128x20 .f32) (bb : Vec Ideal S128 .f32)
    (W1 : Vec Ideal S128x128 .f32) (b1 : Vec Ideal S128 .f32) (W2 : Vec Ideal S128x128 .f32) (b2 : Vec Ideal S128 .f32) (h : ∀ y, (N y : BitVec 32).toNat < 512)
    (b : Fin 4) (i : Fin 512) (n : Fin 64) (f : Fin 128) : EReal :=
  amS a W1 b1 W2 b2 b i f * amS a W1 b1 W2 b2 b ⟨(N (ix3 b i n) : BitVec 32).toNat, h _⟩ f
    * ((∑ k : Fin 20, x (ix4 b i n k) * W (ix2 f k)) + bb (ix1 f)) * (cutK (D (ix3 b i n)) * NM (ix3 b i n))

/-! The operands' layouts at an index. -/

theorem t20 (x : Vec Ideal S128x20 .f32) (k : Fin 20) (f : Fin 128) : transpose S20x128 [1, 0] x transposes_S128x20_S20x128_1_0 (ix2 k f) = x (ix2 f k) := by
  pointwise
theorem t512 (x : Vec Ideal S4x512x64 .f32) (b : Fin 4) (i : Fin 512) (n : Fin 64) : transpose S4x64x512 [0, 2, 1] x transposes_S4x512x64_S4x64x512_0_2_1 (ix3 b n i) = x (ix3 b i n) := by
  pointwise
theorem t20x512 (x : Vec Ideal S4x512x64x20 .f32) (b : Fin 4) (i : Fin 512) (n : Fin 64) (k : Fin 20) : transpose S4x64x20x512 [0, 2, 3, 1] x transposes_S4x512x64x20_S4x64x20x512_0_2_3_1 (ix4 b n k i) = x (ix4 b i n k) := by
  pointwise
theorem s1 (v : Vec Ideal S128 .f32) (k : Fin 128) : shapeCast S1x128 v shapeCasts_S128_S1x128 (ix2 0 k) = v (ix1 k) :=
  shapeCast_apply _ _ _ _ (by rw [Shape.rowMajor_val_two, Shape.rowMajor_val_one]; show k.val = 0 * 128 + k.val; omega)
theorem s3 (a : Vec Ideal S4x512x128 .f32) (b : Fin 4) (i : Fin 512) (k : Fin 128) : shapeCast S2048x128 a shapeCasts_S4x512x128_S2048x128 (ix2 ⟨b.val * 512 + i.val, by omega⟩ k) = a (ix3 b i k) :=
  shapeCast_apply _ _ _ _ (by rw [Shape.rowMajor_val_two, Shape.rowMajor_val_three]; rfl)
theorem s4 (a : Vec Ideal S4x512x64x128 .f32) (b : Fin 4) (i : Fin 512) (n : Fin 64) (k : Fin 128) : shapeCast S131072x128 a shapeCasts_S4x512x64x128_S131072x128 (ix2 ⟨(b.val * 512 + i.val) * 64 + n.val, by omega⟩ k) = a (ix4 b i n k) :=
  shapeCast_apply _ _ _ _ (by rw [Shape.rowMajor_val_two, Shape.rowMajor_val_four]; rfl)

/-- The first call's result at an atom and feature. -/
theorem mlp_args (a : Vec Ideal S4x512x128 .f32) (W1 : Vec Ideal S128x128 .f32) (b1 : Vec Ideal S128 .f32) (W2 : Vec Ideal S128x128 .f32) (b2 : Vec Ideal S128 .f32) (b : Fin 4) (i : Fin 512) (f : Fin 128) :
    k0_pay1 (shapeCast S2048x128 a shapeCasts_S4x512x128_S2048x128) W1 (shapeCast S1x128 b1 shapeCasts_S128_S1x128) W2 (shapeCast S1x128 b2 shapeCasts_S128_S1x128) (ix2 ⟨b.val * 512 + i.val, by omega⟩ f)
      = amS a W1 b1 W2 b2 b i f := by
  have ea (k : Fin 128) : shapeCast S2048x128 a shapeCasts_S4x512x128_S2048x128 (ix2 ⟨b.val * 512 + i.val, by omega⟩ k) = a (ix3 b i k) := s3 a b i k
  have eb (v : Vec Ideal S128 .f32) (k : Fin 128) : shapeCast S1x128 v shapeCasts_S128_S1x128 (ix2 0 k) = v (ix1 k) := s1 v k
  rw [mlp_apply]
  simp only [ea, eb]
  rfl

/-- The gathered row of a pair is its neighbour's in the same batch. -/
theorem gathered_args (tab : Vec Ideal S2048x128 .f32) (N : Vec Ideal S4x512x64 .i32) (h : ∀ y, (N y : BitVec 32).toNat < 512) (b : Fin 4) (i : Fin 512) (n : Fin 64) (f : Fin 128) :
    gathered (F := Ideal) tab (shapeCast S131072 N shapeCasts_S4x512x64_S131072) (ix2 ⟨(b.val * 512 + i.val) * 64 + n.val, by omega⟩ f)
      = tab (ix2 ⟨b.val * 512 + (N (ix3 b i n) : BitVec 32).toNat, by have := h (ix3 b i n); omega⟩ f) := by
  have e : shapeCast S131072 N shapeCasts_S4x512x64_S131072 (idNo ((b.val * 512 + i.val) * 64 + n.val)) = N (ix3 b i n) :=
    shapeCast_apply _ _ _ _ (by
      rw [Shape.rowMajor_val_one, Shape.rowMajor_val_three]
      show (b.val * 512 + i.val) * 64 + n.val = ((b.val * 512 + i.val) * 64 + n.val) % 131072
      omega)
  refine congrArg tab (Shape.idx_ext₂ ?_ rfl)
  show ((shapeCast S131072 N shapeCasts_S4x512x64_S131072 (idNo ((b.val * 512 + i.val) * 64 + n.val)) : BitVec 32).toNat + 512 * (((b.val * 512 + i.val) * 64 + n.val) / 32768)) % 2048
    = b.val * 512 + (N (ix3 b i n) : BitVec 32).toNat
  have := h (ix3 b i n)
  rw [e]
  omega

variable (m : (ℓ : Loc nD τ sig) → Buf (Elt Ideal) ℓ) (d : Dev nD)

/-- The first call's result at an atom and feature, of the arguments. -/
theorem mlpOut_at (b : Fin 4) (i : Fin 512) (f : Fin 128) :
    mlpOut (A1 m d) (ix2 ⟨b.val * 512 + i.val, by omega⟩ f)
      = amS (m ((d.tc : Thread nD τ).loc main_arg0)) (m ((d.tc : Thread nD τ).loc main_arg8)) (m ((d.tc : Thread nD τ).loc main_arg9)) (m ((d.tc : Thread nD τ).loc main_arg10)) (m ((d.tc : Thread nD τ).loc main_arg11)) b i f := by
  unfold mlpOut
  rw [A1_v0, A1_v1, A1_v2, (kept8 m d).1, (kept10 m d).1]
  exact mlp_args _ _ _ _ _ b i f

/-- The last call's message, of the arguments. -/
theorem msgW_at (h : ∀ y, ((m ((d.tc : Thread nD τ).loc main_arg4)) y : BitVec 32).toNat < 512) (b : Fin 4) (i : Fin 512) (n : Fin 64) (f : Fin 128) :
    msgW (A3 m d main_v3) (A3 m d main_v8) (A3 m d main_v10) (A3 m d main_v6) (A3 m d main_v11) (A3 m d main_v4) (A3 m d main_v5) b i n f
      = msgS (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) h b i n f := by
  rw [A3_v3, A3_v8, A3_v10, A3_v6, A3_v11, A3_v4, A3_v5]
  unfold msgW msgS
  refine congrArg₂ (· * ·) (congrArg₂ (· * ·) (congrArg₂ (· * ·) (mlpOut_at m d b i f)
      ((gathered_args _ _ h b i n f).trans (mlpOut_at m d b ⟨_, h _⟩ f)))
      (congrArg₂ (· + ·) (Finset.sum_congr rfl fun x _ => congrArg₂ (· * ·) ?_ ?_) ?_))
    (congrArg₂ (· * ·) (congrArg cutK ?_) ?_)
  · exact t20x512 _ b i n x
  · exact t20 _ x f
  · exact s1 _ f
  · exact t512 _ b i n
  · exact t512 _ b i n

/-- The pair features the program returns. -/
theorem p_at (h : ∀ y, ((m ((d.tc : Thread nD τ).loc main_arg4)) y : BitVec 32).toNat < 512) (p : Vec Ideal S4x512x64x128 .f32) (hp : (m ((d.tc : Thread nD τ).loc main_arg1)) = p) (b : Fin 4) (i : Fin 512) (n : Fin 64) (f : Fin 128) :
    shapeCast S4x512x64x128 (fusePOut (A3 m d)) shapeCasts_S131072x128_S4x512x64x128 (ix4 b i n f)
      = p (ix4 b i n f) + msgS (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) h b i n f := by
  subst hp
  refine (shapeCast_apply _ _ _ (ix2 ⟨(b.val * 512 + i.val) * 64 + n.val, by omega⟩ f) (by rw [Shape.rowMajor_val_two, Shape.rowMajor_val_four]; rfl)).trans ?_
  refine (pOut_apply _ _ (A3_v9 m d) b i n f).trans (congrArg₂ (· + ·) ?_ (msgW_at m d h b i n f))
  exact s4 _ b i n f

/-- The atom features the program returns. -/
theorem a_at (h : ∀ y, ((m ((d.tc : Thread nD τ).loc main_arg4)) y : BitVec 32).toNat < 512) (a : Vec Ideal S4x512x128 .f32) (ha : (m ((d.tc : Thread nD τ).loc main_arg0)) = a) (b : Fin 4) (i : Fin 512) (f : Fin 128) :
    shapeCast S4x512x128 (fuseAOut (A3 m d)) shapeCasts_S2048x128_S4x512x128 (ix3 b i f)
      = a (ix3 b i f) + ∑ n : Fin 64, msgS (m ((d.tc : Thread nD τ).loc main_arg0)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) h b i n f := by
  subst ha
  refine (shapeCast_apply _ _ _ (ix2 ⟨b.val * 512 + i.val, by omega⟩ f) (by rw [Shape.rowMajor_val_two, Shape.rowMajor_val_three]; rfl)).trans ?_
  refine (aOut_apply _ _ (A3_v0 m d) b i f).trans (congrArg₂ (· + ·) ?_ (Finset.sum_congr rfl fun n _ => msgW_at m d h b i n f))
  exact s3 _ b i f

end Cert.KernelIdeal.Val

end
-- ==== Proof.V.RefRes.lean ====
/-
  The reference's two results at an index, by the kernel's message.
-/
module

public import proofs.«01_k».proof.Proof.V.CutAt
public import proofs.«01_k».proof.Proof.V.KerRes

@[expose] public section

set_option maxRecDepth 16384

noncomputable section

namespace Cert.ReferenceIdeal.Val

open Cert.ReferenceIdeal Cert.ReferenceIdeal.Gen
open Idealize.ShloMosaic Idealize.ShloMosaic.TcCoe

/-- Every neighbour's number, laid out per feature, is below 512. -/
theorem posR_lt (N : IVec S4x512x64 32) (h : ∀ y, (N y).toNat < 512) (y : S4x32768x128x1.Idx) : (posR N y).toNat < 512 := by
  have e : y = ix4 (y 0) (y 1) (y 2) 0 := by
    funext a; refine Fin.ext ?_
    match a with
    | ⟨0, _⟩ | ⟨1, _⟩ | ⟨2, _⟩ => rfl
    | ⟨3, _⟩ => exact Nat.lt_one_iff.mp (y 3).isLt
  rw [e]
  exact (congrArg BitVec.toNat (posR_apply N (y 0) (y 1) (y 2) h)).trans_lt (h _)

/-- An atom's message is the kernel's. -/
theorem amR_eq (a : FVec Ideal S4x512x128 .f32) (W1 : FVec Ideal S128x128 .f32) (b1 : FVec Ideal S128 .f32) (W2 : FVec Ideal S128x128 .f32) (b2 : FVec Ideal S128 .f32) (b : Fin 4) (i : Fin 512) (f : Fin 128) :
    amR a W1 b1 W2 b2 (ix3 b i f) = Cert.KernelIdeal.Val.amS a W1 b1 W2 b2 b i f := by
  rw [amR_apply]
  simp only [linR_apply]
  rfl

/-- The message of a pair and feature is the kernel's. -/
theorem msR_eq (a : FVec Ideal S4x512x128 .f32) (x : FVec Ideal S4x512x64x20 .f32) (D : FVec Ideal S4x512x64 .f32) (N : IVec S4x512x64 32) (NM : FVec Ideal S4x512x64 .f32) (W : FVec Ideal S128x20 .f32) (bb : FVec Ideal S128 .f32)
    (W1 : FVec Ideal S128x128 .f32) (b1 : FVec Ideal S128 .f32) (W2 : FVec Ideal S128x128 .f32) (b2 : FVec Ideal S128 .f32) (h : ∀ y, (N y).toNat < 512) (b : Fin 4) (i : Fin 512) (n : Fin 64) (f : Fin 128) :
    msR (amR a W1 b1 W2 b2) (ajR (amR a W1 b1 W2 b2) (posR N)) (rbR x W bb) (cutR D) NM (ix4 b i n f)
      = Cert.KernelIdeal.Val.msgS a x D N NM W bb W1 b1 W2 b2 h b i n f := by
  have hi : (⟨(i.val * 64 + n.val) / 64, by omega⟩ : Fin 512) = i := Fin.ext (by show (i.val * 64 + n.val) / 64 = i.val; omega)
  have hn : (⟨(i.val * 64 + n.val) % 64, by omega⟩ : Fin 64) = n := Fin.ext (by show (i.val * 64 + n.val) % 64 = n.val; omega)
  have hp : posR N (ix4 b ⟨i.val * 64 + n.val, by omega⟩ f 0) = N (ix3 b i n) := by
    rw [posR_apply N b _ f h]
    simp only [hi, hn]
  have hj : (⟨(posR N (ix4 b ⟨i.val * 64 + n.val, by omega⟩ f 0)).toNat, posR_lt N h _⟩ : Fin 512) = ⟨(N (ix3 b i n)).toNat, h _⟩ := Fin.ext (congrArg BitVec.toNat hp)
  rw [msR_apply, ajR_apply _ _ (posR_lt N h), hj, rbR_apply, cutR_apply, amR_eq, amR_eq]
  have key (p r k q : EReal) : p * (r * k) * q = p * r * (k * q) := by rw [← mul_assoc p r k, mul_assoc (p * r) k q]
  exact key _ _ _ _

variable (m : (ℓ : Loc nD τ sig) → Buf (Elt Ideal) ℓ) (c : Dev nD)

/-- The pair features the reference returns. -/
theorem p_at (h : ∀ y, ((m ((c.tc : Thread nD τ).loc main_arg4)) y : BitVec 32).toNat < 512) (p : FVec Ideal S4x512x64x128 .f32) (hp : (m ((c.tc : Thread nD τ).loc main_arg1)) = p) (b : Fin 4) (i : Fin 512) (n : Fin 64) (f : Fin 128) :
    Value.res_main_v58 (F := Ideal) m c (ix4 b i n f)
      = p (ix4 b i n f) + Cert.KernelIdeal.Val.msgS (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) h b i n f := by
  subst hp
  rw [v58_eq]
  exact congrArg₂ (· + ·) rfl (msR_eq _ _ _ _ _ _ _ _ _ _ _ h b i n f)

/-- The sum over an atom's neighbours. -/
theorem sum_at (a : FVec Ideal S4x512x128 .f32) (ms : FVec Ideal S4x512x64x128 .f32) (b : Fin 4) (i : Fin 512) (f : Fin 128) :
    addf a (Host.reduceAdd ms (constant S_ .f32 0x00000000#32) reducesTo_S4x512x64x128_S4x512x128_d2 h_S_) (ix3 b i f) = a (ix3 b i f) + ∑ n : Fin 64, ms (ix4 b i n f) := by
  pointwise

/-- The atom features the reference returns. -/
theorem a_at (h : ∀ y, ((m ((c.tc : Thread nD τ).loc main_arg4)) y : BitVec 32).toNat < 512) (a : FVec Ideal S4x512x128 .f32) (ha : (m ((c.tc : Thread nD τ).loc main_arg0)) = a) (b : Fin 4) (i : Fin 512) (f : Fin 128) :
    Value.res_main_v57 (F := Ideal) m c (ix3 b i f)
      = a (ix3 b i f) + ∑ n : Fin 64, Cert.KernelIdeal.Val.msgS (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) h b i n f := by
  subst ha
  rw [v57_eq]
  exact (sum_at _ _ b i f).trans (congrArg₂ (· + ·) rfl (Finset.sum_congr rfl fun n _ => msR_eq _ _ _ _ _ _ _ _ _ _ _ h b i n f))

end Cert.ReferenceIdeal.Val

end
-- ==== Proof.V.Value.lean ====
/-
  From arguments that agree, with every row number in range, the two programs return the same features.
-/
module

public import proofs.«01_k».proof.Proof.V.RefRes

@[expose] public section

set_option maxRecDepth 16384

noncomputable section

namespace Cert.KernelIdeal.Val

open Cert.KernelIdeal Cert.KernelIdeal.Gen Cert.KernelIdeal.Run
open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The message depends on the arguments alone. -/
theorem msgS_congr {a a' : Vec Ideal S4x512x128 .f32} {x x' : Vec Ideal S4x512x64x20 .f32} {D D' : Vec Ideal S4x512x64 .f32} {N N' : Vec Ideal S4x512x64 .i32} {NM NM' : Vec Ideal S4x512x64 .f32} {W W' : Vec Ideal S128x20 .f32} {bb bb' : Vec Ideal S128 .f32}
    {W1 W1' : Vec Ideal S128x128 .f32} {b1 b1' : Vec Ideal S128 .f32} {W2 W2' : Vec Ideal S128x128 .f32} {b2 b2' : Vec Ideal S128 .f32} {h : ∀ y, (N y : BitVec 32).toNat < 512} {h' : ∀ y, (N' y : BitVec 32).toNat < 512}
    (e0 : a' = a) (e2 : x' = x) (e3 : D' = D) (e4 : N' = N) (e5 : NM' = NM) (e6 : W' = W) (e7 : bb' = bb) (e8 : W1' = W1) (e9 : b1' = b1) (e10 : W2' = W2) (e11 : b2' = b2) (b : Fin 4) (i : Fin 512) (n : Fin 64) (f : Fin 128) :
    msgS a' x' D' N' NM' W' bb' W1' b1' W2' b2' h' b i n f = msgS a x D N NM W bb W1 b1 W2 b2 h b i n f := by
  subst e0 e2 e3 e4 e5 e6 e7 e8 e9 e10 e11; rfl

/-- From arguments that agree, the reference's pair features are the kernel's. -/
theorem p_eq (h : ∀ y, ((m ((c.tc : Thread Cert.KernelIdeal.nD Cert.KernelIdeal.τ).loc Cert.KernelIdeal.main_arg4)) y : BitVec 32).toNat < 512) (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Value.res_main_v58 (F := Ideal) m' c : Vec Ideal S4x512x64x128 .f32) = shapeCast S4x512x64x128 (fusePOut (A3 m c)) shapeCasts_S131072x128_S4x512x64x128 := by
  funext y
  have ey : y = ix4 (y 0) (y 1) (y 2) (y 3) := by
    funext a; match a with | ⟨0, _⟩ | ⟨1, _⟩ | ⟨2, _⟩ | ⟨3, _⟩ => rfl
  rw [ey]
  have h' : ∀ y, ((m' ((c.tc : Thread Cert.ReferenceIdeal.nD Cert.ReferenceIdeal.τ).loc Cert.ReferenceIdeal.main_arg4)) y : BitVec 32).toNat < 512 := fun y => (congrArg BitVec.toNat (congrFun e4 y)).trans_lt (h y)
  refine (Cert.ReferenceIdeal.Val.p_at m' c h' _ rfl (y 0) (y 1) (y 2) (y 3)).trans (Eq.trans ?_ (p_at m c h _ rfl (y 0) (y 1) (y 2) (y 3)).symm)
  exact congrArg₂ (· + ·) (congrFun e1 _) (msgS_congr e0 e2 e3 e4 e5 e6 e7 e8 e9 e10 e11 _ _ _ _)

/-- From arguments that agree, the reference's atom features are the kernel's. -/
theorem a_eq (h : ∀ y, ((m ((c.tc : Thread Cert.KernelIdeal.nD Cert.KernelIdeal.τ).loc Cert.KernelIdeal.main_arg4)) y : BitVec 32).toNat < 512) (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    (Cert.ReferenceIdeal.Value.res_main_v57 (F := Ideal) m' c : Vec Ideal S4x512x128 .f32) = shapeCast S4x512x128 (fuseAOut (A3 m c)) shapeCasts_S2048x128_S4x512x128 := by
  funext y
  have ey : y = ix3 (y 0) (y 1) (y 2) := by
    funext a; match a with | ⟨0, _⟩ | ⟨1, _⟩ | ⟨2, _⟩ => rfl
  rw [ey]
  have h' : ∀ y, ((m' ((c.tc : Thread Cert.ReferenceIdeal.nD Cert.ReferenceIdeal.τ).loc Cert.ReferenceIdeal.main_arg4)) y : BitVec 32).toNat < 512 := fun y => (congrArg BitVec.toNat (congrFun e4 y)).trans_lt (h y)
  refine (Cert.ReferenceIdeal.Val.a_at m' c h' _ rfl (y 0) (y 1) (y 2)).trans (Eq.trans ?_ (a_at m c h _ rfl (y 0) (y 1) (y 2)).symm)
  exact congrArg₂ (· + ·) (congrFun e0 _) (Finset.sum_congr rfl fun n _ => msgS_congr e0 e2 e3 e4 e5 e6 e7 e8 e9 e10 e11 _ _ _ _)

end Cert.KernelIdeal.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.K.Ends
public import proofs.«01_k».proof.Proof.KI.Ends
public import proofs.«01_k».proof.Proof.V.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame: its arguments end as they began and its semaphores at zero, whenever every row number is in range. -/
theorem frame_p : quiescent_Kernel (hKernel := Cert.Kernel.Gen.facts) (hPre_in_range := Cert.Pre_in_range.Gen.facts) := fun m g hm =>
  letI := Cert.Pre_in_range.Gen.facts
  (θ_run (Cert.Kernel.defs (F := Bits)) _ _).mono (fun _ h => ⟨fun c => (h.1 c).2.2, h.2⟩)
    (Cert.Kernel.Run.run_ends m g (Cert.Kernel.Run.ids_lt m _ _ _ _ _ _ _ _ _ _ _ hm))

/-- The idealized kernel's frame. -/
theorem frame_pi : quiescent_KernelIdeal (hKernelIdeal := Cert.KernelIdeal.Gen.facts) (hPre_in_range := Cert.Pre_in_range.Gen.facts) := fun m g hm =>
  letI := Cert.Pre_in_range.Gen.facts
  (θ_run (Cert.KernelIdeal.defs (F := Ideal)) _ _).mono (fun _ h => ⟨fun c => (h.1 c).2.2, h.2⟩)
    (Cert.KernelIdeal.Run.run_ends m g (Cert.KernelIdeal.Run.ids_lt m _ _ _ _ _ _ _ _ _ _ _ hm))

/-- The reference's frame, with no precondition: a program of host operations has no semaphore. -/
theorem frame_ri : quiescent_ReferenceIdeal (hReferenceIdeal := Cert.ReferenceIdeal.Gen.facts) := fun m g _ =>
  (θ_run (Cert.ReferenceIdeal.defs (F := Ideal)) _ _).mono
    (fun r h => ⟨fun c => (h c).2.2, sem_eq_zero_of_no_sems (by decide) r.2⟩) (Cert.ReferenceIdeal.Value.run m g)

/-- The same under the precondition. -/
theorem frame_ri_in_range :
    quiescent_ReferenceIdeal_pre_in_range (hReferenceIdeal := Cert.ReferenceIdeal.Gen.facts) (hPre_in_range := Cert.Pre_in_range.Gen.facts) := fun m g _ =>
  frame_ri m g trivial

/-- The named constant is what its float word rounds. -/
theorem preserves : preserves_Kernel_KernelIdeal :=
  IdealRules.named_const.statement Cert.KernelIdeal.κ "inv_cutoff" .f32 0x3E4CCCCD#32 ((5⁻¹ : ℝ) : EReal) rfl

/-- Over the extended reals the kernel and the reference return the same two results, whenever every row number is in range. -/
theorem algebraic :
    algebraic_KernelIdeal_ReferenceIdeal (hKernelIdeal := Cert.KernelIdeal.Gen.facts) (hReferenceIdeal := Cert.ReferenceIdeal.Gen.facts) (hPre_in_range := Cert.Pre_in_range.Gen.facts) := fun m g m' g' hm hag => by
  letI := Cert.Pre_in_range.Gen.facts
  have hN := fun c => Cert.KernelIdeal.Run.rows_lt _ _ _ _ _ _ _ _ _ _ _ _ (hm c)
  refine ⟨_, _, (θ_run (Cert.KernelIdeal.defs (F := Ideal)) _ _).mono (fun _ h => h.1)
    (Cert.KernelIdeal.Run.run_ends m g (Cert.KernelIdeal.Run.ids_lt m _ _ _ _ _ _ _ _ _ _ _ hm)),
    (θ_run (Cert.ReferenceIdeal.defs (F := Ideal)) _ _).mono (fun r h c => ?_) (Cert.ReferenceIdeal.Value.run m' g')⟩
  obtain ⟨e0, e1, e2, e3, e4, e5, e6, e7, e8, e9, e10, e11⟩ := hag c
  exact ⟨(h c).1.trans (Cert.KernelIdeal.Val.a_eq m m' c (hN c) e0 e2 e3 e4 e5 e6 e7 e8 e9 e10 e11),
    (h c).2.1.trans (Cert.KernelIdeal.Val.p_eq m m' c (hN c) e0 e1 e2 e3 e4 e5 e6 e7 e8 e9 e10 e11), (h c).2.2⟩

/-- `Cert.Claim` (Defs.lean). -/
theorem claim : Cert.Claim :=
  ⟨Cert.Kernel.Gen.facts, Cert.KernelIdeal.Gen.facts, Cert.ReferenceIdeal.Gen.facts, Cert.Pre_in_range.Gen.facts,
    frame_p, frame_pi, frame_ri, frame_ri_in_range, preserves, algebraic⟩

end Cert.Proof

end
